-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x2048 : Shape := ⟨2, ![2048, 2048]⟩
abbrev S2048x128 : Shape := ⟨2, ![2048, 128]⟩
abbrev S4 : Shape := ⟨1, ![4]⟩
abbrev S16 : Shape := ⟨1, ![16]⟩
abbrev S1 : Shape := ⟨1, ![1]⟩
abbrev S_ : Shape := ⟨0, ![]⟩
abbrev S2048x1024 : Shape := ⟨2, ![2048, 1024]⟩
abbrev S128x1024 : Shape := ⟨2, ![128, 1024]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048x128, .f32⟩
  | .local _ .vmem, ⟨0, _⟩ => ⟨S128x2048, .f32⟩
  | .local _ .vmem, ⟨1, _⟩ => ⟨S2048x2048, .f32⟩
  | .local _ .vmem, ⟨2, _⟩ => ⟨S128x2048, .bf16⟩
  | .local _ .vmem, ⟨3, _⟩ => ⟨S2048x128, .bf16⟩
  | .local _ .vmem, ⟨4, _⟩ => ⟨S2048x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 17 36 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 16

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v13 : BitVec 32 := Scalar.addi v2 c1_i32_8
  let c16_i32_9 : BitVec 32 := 16#32
  let c0_i32_10 : BitVec 32 := 0#32
  let v14 : BitVec 1 := Scalar.cmpi .eq c16_i32_9 c0_i32_10
  let c1_i32_11 : BitVec 32 := 1#32
  let v15 : BitVec 32 := Scalar.select v14 c1_i32_11 c16_i32_9
  let v16 : BitVec 32 := Scalar.remsi v13 v15
  let c0_i32_13 : BitVec 32 := 0#32
  let v18 : BitVec 1 := Scalar.cmpi .slt v16 c0_i32_13
  let c0_i32_14 : BitVec 32 := 0#32
  let v19 : BitVec 1 := Scalar.cmpi .slt v15 c0_i32_14
  let v20 : BitVec 1 := Scalar.xori v18 v19
  let c0_i32_12 : BitVec 32 := 0#32
  let v17 : BitVec 1 := Scalar.cmpi .ne v16 c0_i32_12
  let v21 : BitVec 1 := Scalar.andi v20 v17
  let v22 : BitVec 32 := Scalar.addi v16 v15
  let v23 : BitVec 32 := Scalar.select v21 v22 v16
  let c1_i32_16 : BitVec 32 := 1#32
  let v26 : BitVec 32 := Scalar.muli v23 c1_i32_16
  let v27 : BitVec 32 := Scalar.addi c0_i32_17 v26
  v27.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_18 : BitVec 32 := 2#32
  let v28 : BitVec 32 := Scalar.addi v2 c2_i32_18
  let c16_i32_19 : BitVec 32 := 16#32
  let c0_i32_20 : BitVec 32 := 0#32
  let v29 : BitVec 1 := Scalar.cmpi .eq c16_i32_19 c0_i32_20
  let c1_i32_21 : BitVec 32 := 1#32
  let v30 : BitVec 32 := Scalar.select v29 c1_i32_21 c16_i32_19
  let v31 : BitVec 32 := Scalar.remsi v28 v30
  let c0_i32_23 : BitVec 32 := 0#32
  let v33 : BitVec 1 := Scalar.cmpi .slt v31 c0_i32_23
  let c0_i32_24 : BitVec 32 := 0#32
  let v34 : BitVec 1 := Scalar.cmpi .slt v30 c0_i32_24
  let v35 : BitVec 1 := Scalar.xori v33 v34
  let c0_i32_22 : BitVec 32 := 0#32
  let v32 : BitVec 1 := Scalar.cmpi .ne v31 c0_i32_22
  let v36 : BitVec 1 := Scalar.andi v35 v32
  let v37 : BitVec 32 := Scalar.addi v31 v30
  let v38 : BitVec 32 := Scalar.select v36 v37 v31
  let c1_i32_26 : BitVec 32 := 1#32
  let v41 : BitVec 32 := Scalar.muli v38 c1_i32_26
  let v42 : BitVec 32 := Scalar.addi c0_i32_27 v41
  v42.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v43 : BitVec 32 := Scalar.addi v2 c3_i32
  let c16_i32_28 : BitVec 32 := 16#32
  let c0_i32_29 : BitVec 32 := 0#32
  let v44 : BitVec 1 := Scalar.cmpi .eq c16_i32_28 c0_i32_29
  let c1_i32_30 : BitVec 32 := 1#32
  let v45 : BitVec 32 := Scalar.select v44 c1_i32_30 c16_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1_i32_35 : BitVec 32 := 1#32
  let v56 : BitVec 32 := Scalar.muli v53 c1_i32_35
  let v57 : BitVec 32 := Scalar.addi c0_i32_36 v56
  v57.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v58 : BitVec 32 := Scalar.addi v2 c4_i32
  let c16_i32_37 : BitVec 32 := 16#32
  let c0_i32_38 : BitVec 32 := 0#32
  let v59 : BitVec 1 := Scalar.cmpi .eq c16_i32_37 c0_i32_38
  let c1_i32_39 : BitVec 32 := 1#32
  let v60 : BitVec 32 := Scalar.select v59 c1_i32_39 c16_i32_37
  let v61 : BitVec 32 := Scalar.remsi v58 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let c1_i32_44 : BitVec 32 := 1#32
  let v71 : BitVec 32 := Scalar.muli v68 c1_i32_44
  let v72 : BitVec 32 := Scalar.addi c0_i32_45 v71
  v72.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v73 : BitVec 32 := Scalar.addi v2 c5_i32
  let c16_i32_46 : BitVec 32 := 16#32
  let c0_i32_47 : BitVec 32 := 0#32
  let v74 : BitVec 1 := Scalar.cmpi .eq c16_i32_46 c0_i32_47
  let c1_i32_48 : BitVec 32 := 1#32
  let v75 : BitVec 32 := Scalar.select v74 c1_i32_48 c16_i32_46
  let v76 : BitVec 32 := Scalar.remsi v73 v75
  let c0_i32_50 : BitVec 32 := 0#32
  let v78 : BitVec 1 := Scalar.cmpi .slt v76 c0_i32_50
  let c0_i32_51 : BitVec 32 := 0#32
  let v79 : BitVec 1 := Scalar.cmpi .slt v75 c0_i32_51
  let v80 : BitVec 1 := Scalar.xori v78 v79
  let c0_i32_49 : BitVec 32 := 0#32
  let v77 : BitVec 1 := Scalar.cmpi .ne v76 c0_i32_49
  let v81 : BitVec 1 := Scalar.andi v80 v77
  let v82 : BitVec 32 := Scalar.addi v76 v75
  let v83 : BitVec 32 := Scalar.select v81 v82 v76
  let c1_i32_53 : BitVec 32 := 1#32
  let v86 : BitVec 32 := Scalar.muli v83 c1_i32_53
  let v87 : BitVec 32 := Scalar.addi c0_i32_54 v86
  v87.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v88 : BitVec 32 := Scalar.addi v2 c6_i32
  let c16_i32_55 : BitVec 32 := 16#32
  let c0_i32_56 : BitVec 32 := 0#32
  let v89 : BitVec 1 := Scalar.cmpi .eq c16_i32_55 c0_i32_56
  let c1_i32_57 : BitVec 32 := 1#32
  let v90 : BitVec 32 := Scalar.select v89 c1_i32_57 c16_i32_55
  let v91 : BitVec 32 := Scalar.remsi v88 v90
  let c0_i32_59 : BitVec 32 := 0#32
  let v93 : BitVec 1 := Scalar.cmpi .slt v91 c0_i32_59
  let c0_i32_60 : BitVec 32 := 0#32
  let v94 : BitVec 1 := Scalar.cmpi .slt v90 c0_i32_60
  let v95 : BitVec 1 := Scalar.xori v93 v94
  let c0_i32_58 : BitVec 32 := 0#32
  let v92 : BitVec 1 := Scalar.cmpi .ne v91 c0_i32_58
  let v96 : BitVec 1 := Scalar.andi v95 v92
  let v97 : BitVec 32 := Scalar.addi v91 v90
  let v98 : BitVec 32 := Scalar.select v96 v97 v91
  let c1_i32_62 : BitVec 32 := 1#32
  let v101 : BitVec 32 := Scalar.muli v98 c1_i32_62
  let v102 : BitVec 32 := Scalar.addi c0_i32_63 v101
  v102.toNat
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v103 : BitVec 32 := Scalar.addi v2 c7_i32
  let c16_i32_64 : BitVec 32 := 16#32
  let c0_i32_65 : BitVec 32 := 0#32
  let v104 : BitVec 1 := Scalar.cmpi .eq c16_i32_64 c0_i32_65
  let c1_i32_66 : BitVec 32 := 1#32
  let v105 : BitVec 32 := Scalar.select v104 c1_i32_66 c16_i32_64
  let v106 : BitVec 32 := Scalar.remsi v103 v105
  let c0_i32_68 : BitVec 32 := 0#32
  let v108 : BitVec 1 := Scalar.cmpi .slt v106 c0_i32_68
  let c0_i32_69 : BitVec 32 := 0#32
  let v109 : BitVec 1 := Scalar.cmpi .slt v105 c0_i32_69
  let v110 : BitVec 1 := Scalar.xori v108 v109
  let c0_i32_67 : BitVec 32 := 0#32
  let v107 : BitVec 1 := Scalar.cmpi .ne v106 c0_i32_67
  let v111 : BitVec 1 := Scalar.andi v110 v107
  let v112 : BitVec 32 := Scalar.addi v106 v105
  let v113 : BitVec 32 := Scalar.select v111 v112 v106
  let c1_i32_71 : BitVec 32 := 1#32
  let v116 : BitVec 32 := Scalar.muli v113 c1_i32_71
  let v117 : BitVec 32 := Scalar.addi c0_i32_72 v116
  v117.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v118 : BitVec 32 := Scalar.addi v2 c8_i32
  let c16_i32_73 : BitVec 32 := 16#32
  let c0_i32_74 : BitVec 32 := 0#32
  let v119 : BitVec 1 := Scalar.cmpi .eq c16_i32_73 c0_i32_74
  let c1_i32_75 : BitVec 32 := 1#32
  let v120 : BitVec 32 := Scalar.select v119 c1_i32_75 c16_i32_73
  let v121 : BitVec 32 := Scalar.remsi v118 v120
  let c0_i32_77 : BitVec 32 := 0#32
  let v123 : BitVec 1 := Scalar.cmpi .slt v121 c0_i32_77
  let c0_i32_78 : BitVec 32 := 0#32
  let v124 : BitVec 1 := Scalar.cmpi .slt v120 c0_i32_78
  let v125 : BitVec 1 := Scalar.xori v123 v124
  let c0_i32_76 : BitVec 32 := 0#32
  let v122 : BitVec 1 := Scalar.cmpi .ne v121 c0_i32_76
  let v126 : BitVec 1 := Scalar.andi v125 v122
  let v127 : BitVec 32 := Scalar.addi v121 v120
  let v128 : BitVec 32 := Scalar.select v126 v127 v121
  let c1_i32_80 : BitVec 32 := 1#32
  let v131 : BitVec 32 := Scalar.muli v128 c1_i32_80
  let v132 : BitVec 32 := Scalar.addi c0_i32_81 v131
  v132.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v133 : BitVec 32 := Scalar.addi v2 c9_i32
  let c16_i32_82 : BitVec 32 := 16#32
  let c0_i32_83 : BitVec 32 := 0#32
  let v134 : BitVec 1 := Scalar.cmpi .eq c16_i32_82 c0_i32_83
  let c1_i32_84 : BitVec 32 := 1#32
  let v135 : BitVec 32 := Scalar.select v134 c1_i32_84 c16_i32_82
  let v136 : BitVec 32 := Scalar.remsi v133 v135
  let c0_i32_86 : BitVec 32 := 0#32
  let v138 : BitVec 1 := Scalar.cmpi .slt v136 c0_i32_86
  let c0_i32_87 : BitVec 32 := 0#32
  let v139 : BitVec 1 := Scalar.cmpi .slt v135 c0_i32_87
  let v140 : BitVec 1 := Scalar.xori v138 v139
  let c0_i32_85 : BitVec 32 := 0#32
  let v137 : BitVec 1 := Scalar.cmpi .ne v136 c0_i32_85
  let v141 : BitVec 1 := Scalar.andi v140 v137
  let v142 : BitVec 32 := Scalar.addi v136 v135
  let v143 : BitVec 32 := Scalar.select v141 v142 v136
  let c1_i32_89 : BitVec 32 := 1#32
  let v146 : BitVec 32 := Scalar.muli v143 c1_i32_89
  let v147 : BitVec 32 := Scalar.addi c0_i32_90 v146
  v147.toNat
def k0_dev10 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v148 : BitVec 32 := Scalar.addi v2 c10_i32
  let c16_i32_91 : BitVec 32 := 16#32
  let c0_i32_92 : BitVec 32 := 0#32
  let v149 : BitVec 1 := Scalar.cmpi .eq c16_i32_91 c0_i32_92
  let c1_i32_93 : BitVec 32 := 1#32
  let v150 : BitVec 32 := Scalar.select v149 c1_i32_93 c16_i32_91
  let v151 : BitVec 32 := Scalar.remsi v148 v150
  let c0_i32_95 : BitVec 32 := 0#32
  let v153 : BitVec 1 := Scalar.cmpi .slt v151 c0_i32_95
  let c0_i32_96 : BitVec 32 := 0#32
  let v154 : BitVec 1 := Scalar.cmpi .slt v150 c0_i32_96
  let v155 : BitVec 1 := Scalar.xori v153 v154
  let c0_i32_94 : BitVec 32 := 0#32
  let v152 : BitVec 1 := Scalar.cmpi .ne v151 c0_i32_94
  let v156 : BitVec 1 := Scalar.andi v155 v152
  let v157 : BitVec 32 := Scalar.addi v151 v150
  let v158 : BitVec 32 := Scalar.select v156 v157 v151
  let c1_i32_98 : BitVec 32 := 1#32
  let v161 : BitVec 32 := Scalar.muli v158 c1_i32_98
  let v162 : BitVec 32 := Scalar.addi c0_i32_99 v161
  v162.toNat
def k0_dev11 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v163 : BitVec 32 := Scalar.addi v2 c11_i32
  let c16_i32_100 : BitVec 32 := 16#32
  let c0_i32_101 : BitVec 32 := 0#32
  let v164 : BitVec 1 := Scalar.cmpi .eq c16_i32_100 c0_i32_101
  let c1_i32_102 : BitVec 32 := 1#32
  let v165 : BitVec 32 := Scalar.select v164 c1_i32_102 c16_i32_100
  let v166 : BitVec 32 := Scalar.remsi v163 v165
  let c0_i32_104 : BitVec 32 := 0#32
  let v168 : BitVec 1 := Scalar.cmpi .slt v166 c0_i32_104
  let c0_i32_105 : BitVec 32 := 0#32
  let v169 : BitVec 1 := Scalar.cmpi .slt v165 c0_i32_105
  let v170 : BitVec 1 := Scalar.xori v168 v169
  let c0_i32_103 : BitVec 32 := 0#32
  let v167 : BitVec 1 := Scalar.cmpi .ne v166 c0_i32_103
  let v171 : BitVec 1 := Scalar.andi v170 v167
  let v172 : BitVec 32 := Scalar.addi v166 v165
  let v173 : BitVec 32 := Scalar.select v171 v172 v166
  let c1_i32_107 : BitVec 32 := 1#32
  let v176 : BitVec 32 := Scalar.muli v173 c1_i32_107
  let v177 : BitVec 32 := Scalar.addi c0_i32_108 v176
  v177.toNat
def k0_dev12 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v178 : BitVec 32 := Scalar.addi v2 c12_i32
  let c16_i32_109 : BitVec 32 := 16#32
  let c0_i32_110 : BitVec 32 := 0#32
  let v179 : BitVec 1 := Scalar.cmpi .eq c16_i32_109 c0_i32_110
  let c1_i32_111 : BitVec 32 := 1#32
  let v180 : BitVec 32 := Scalar.select v179 c1_i32_111 c16_i32_109
  let v181 : BitVec 32 := Scalar.remsi v178 v180
  let c0_i32_113 : BitVec 32 := 0#32
  let v183 : BitVec 1 := Scalar.cmpi .slt v181 c0_i32_113
  let c0_i32_114 : BitVec 32 := 0#32
  let v184 : BitVec 1 := Scalar.cmpi .slt v180 c0_i32_114
  let v185 : BitVec 1 := Scalar.xori v183 v184
  let c0_i32_112 : BitVec 32 := 0#32
  let v182 : BitVec 1 := Scalar.cmpi .ne v181 c0_i32_112
  let v186 : BitVec 1 := Scalar.andi v185 v182
  let v187 : BitVec 32 := Scalar.addi v181 v180
  let v188 : BitVec 32 := Scalar.select v186 v187 v181
  let c1_i32_116 : BitVec 32 := 1#32
  let v191 : BitVec 32 := Scalar.muli v188 c1_i32_116
  let v192 : BitVec 32 := Scalar.addi c0_i32_117 v191
  v192.toNat
def k0_dev13 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v193 : BitVec 32 := Scalar.addi v2 c13_i32
  let c16_i32_118 : BitVec 32 := 16#32
  let c0_i32_119 : BitVec 32 := 0#32
  let v194 : BitVec 1 := Scalar.cmpi .eq c16_i32_118 c0_i32_119
  let c1_i32_120 : BitVec 32 := 1#32
  let v195 : BitVec 32 := Scalar.select v194 c1_i32_120 c16_i32_118
  let v196 : BitVec 32 := Scalar.remsi v193 v195
  let c0_i32_122 : BitVec 32 := 0#32
  let v198 : BitVec 1 := Scalar.cmpi .slt v196 c0_i32_122
  let c0_i32_123 : BitVec 32 := 0#32
  let v199 : BitVec 1 := Scalar.cmpi .slt v195 c0_i32_123
  let v200 : BitVec 1 := Scalar.xori v198 v199
  let c0_i32_121 : BitVec 32 := 0#32
  let v197 : BitVec 1 := Scalar.cmpi .ne v196 c0_i32_121
  let v201 : BitVec 1 := Scalar.andi v200 v197
  let v202 : BitVec 32 := Scalar.addi v196 v195
  let v203 : BitVec 32 := Scalar.select v201 v202 v196
  let c1_i32_125 : BitVec 32 := 1#32
  let v206 : BitVec 32 := Scalar.muli v203 c1_i32_125
  let v207 : BitVec 32 := Scalar.addi c0_i32_126 v206
  v207.toNat
def k0_dev14 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v208 : BitVec 32 := Scalar.addi v2 c14_i32
  let c16_i32_127 : BitVec 32 := 16#32
  let c0_i32_128 : BitVec 32 := 0#32
  let v209 : BitVec 1 := Scalar.cmpi .eq c16_i32_127 c0_i32_128
  let c1_i32_129 : BitVec 32 := 1#32
  let v210 : BitVec 32 := Scalar.select v209 c1_i32_129 c16_i32_127
  let v211 : BitVec 32 := Scalar.remsi v208 v210
  let c0_i32_131 : BitVec 32 := 0#32
  let v213 : BitVec 1 := Scalar.cmpi .slt v211 c0_i32_131
  let c0_i32_132 : BitVec 32 := 0#32
  let v214 : BitVec 1 := Scalar.cmpi .slt v210 c0_i32_132
  let v215 : BitVec 1 := Scalar.xori v213 v214
  let c0_i32_130 : BitVec 32 := 0#32
  let v212 : BitVec 1 := Scalar.cmpi .ne v211 c0_i32_130
  let v216 : BitVec 1 := Scalar.andi v215 v212
  let v217 : BitVec 32 := Scalar.addi v211 v210
  let v218 : BitVec 32 := Scalar.select v216 v217 v211
  let c1_i32_134 : BitVec 32 := 1#32
  let v221 : BitVec 32 := Scalar.muli v218 c1_i32_134
  let v222 : BitVec 32 := Scalar.addi c0_i32_135 v221
  v222.toNat
def k0_dev15 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v223 : BitVec 32 := Scalar.addi v2 c15_i32
  let c16_i32_136 : BitVec 32 := 16#32
  let c0_i32_137 : BitVec 32 := 0#32
  let v224 : BitVec 1 := Scalar.cmpi .eq c16_i32_136 c0_i32_137
  let c1_i32_138 : BitVec 32 := 1#32
  let v225 : BitVec 32 := Scalar.select v224 c1_i32_138 c16_i32_136
  let v226 : BitVec 32 := Scalar.remsi v223 v225
  let c0_i32_140 : BitVec 32 := 0#32
  let v228 : BitVec 1 := Scalar.cmpi .slt v226 c0_i32_140
  let c0_i32_141 : BitVec 32 := 0#32
  let v229 : BitVec 1 := Scalar.cmpi .slt v225 c0_i32_141
  let v230 : BitVec 1 := Scalar.xori v228 v229
  let c0_i32_139 : BitVec 32 := 0#32
  let v227 : BitVec 1 := Scalar.cmpi .ne v226 c0_i32_139
  let v231 : BitVec 1 := Scalar.andi v230 v227
  let v232 : BitVec 32 := Scalar.addi v226 v225
  let v233 : BitVec 32 := Scalar.select v231 v232 v226
  let c1_i32_143 : BitVec 32 := 1#32
  let v236 : BitVec 32 := Scalar.muli v233 c1_i32_143
  let v237 : BitVec 32 := Scalar.addi c0_i32_144 v236
  v237.toNat
def k0_dev16 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v239 : BitVec 32 := Scalar.addi v2 c1_i32_145
  let c16_i32_146 : BitVec 32 := 16#32
  let c0_i32_147 : BitVec 32 := 0#32
  let v240 : BitVec 1 := Scalar.cmpi .eq c16_i32_146 c0_i32_147
  let c1_i32_148 : BitVec 32 := 1#32
  let v241 : BitVec 32 := Scalar.select v240 c1_i32_148 c16_i32_146
  let v242 : BitVec 32 := Scalar.remsi v239 v241
  let c0_i32_150 : BitVec 32 := 0#32
  let v244 : BitVec 1 := Scalar.cmpi .slt v242 c0_i32_150
  let c0_i32_151 : BitVec 32 := 0#32
  let v245 : BitVec 1 := Scalar.cmpi .slt v241 c0_i32_151
  let v246 : BitVec 1 := Scalar.xori v244 v245
  let c0_i32_149 : BitVec 32 := 0#32
  let v243 : BitVec 1 := Scalar.cmpi .ne v242 c0_i32_149
  let v247 : BitVec 1 := Scalar.andi v246 v243
  let v248 : BitVec 32 := Scalar.addi v242 v241
  let v249 : BitVec 32 := Scalar.select v247 v248 v242
  let c1_i32_160 : BitVec 32 := 1#32
  let v261 : BitVec 32 := Scalar.muli v249 c1_i32_160
  let v262 : BitVec 32 := Scalar.addi c0_i32_161 v261
  v262.toNat
def k0_dev17 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_152 : BitVec 32 := 1#32
  let v250 : BitVec 32 := Scalar.subi v2 c1_i32_152
  let c16_i32_153 : BitVec 32 := 16#32
  let c0_i32_154 : BitVec 32 := 0#32
  let v251 : BitVec 1 := Scalar.cmpi .eq c16_i32_153 c0_i32_154
  let c1_i32_155 : BitVec 32 := 1#32
  let v252 : BitVec 32 := Scalar.select v251 c1_i32_155 c16_i32_153
  let v253 : BitVec 32 := Scalar.remsi v250 v252
  let c0_i32_157 : BitVec 32 := 0#32
  let v255 : BitVec 1 := Scalar.cmpi .slt v253 c0_i32_157
  let c0_i32_158 : BitVec 32 := 0#32
  let v256 : BitVec 1 := Scalar.cmpi .slt v252 c0_i32_158
  let v257 : BitVec 1 := Scalar.xori v255 v256
  let c0_i32_156 : BitVec 32 := 0#32
  let v254 : BitVec 1 := Scalar.cmpi .ne v253 c0_i32_156
  let v258 : BitVec 1 := Scalar.andi v257 v254
  let v259 : BitVec 32 := Scalar.addi v253 v252
  let v260 : BitVec 32 := Scalar.select v258 v259 v253
  let c1_i32_163 : BitVec 32 := 1#32
  let v263 : BitVec 32 := Scalar.muli v260 c1_i32_163
  let v264 : BitVec 32 := Scalar.addi c0_i32_164 v263
  v264.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_177 : BitVec 32 := 0#32
  let v278 : BitVec 1 := Scalar.cmpi .eq v2 c0_i32_177
  let v279 : BitVec 32 := Scalar.extui v278
  let c0_i32_178 : BitVec 32 := 0#32
  let v280 : BitVec 1 := Scalar.cmpi .ne v279 c0_i32_178
  v280

def k0_off2 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_179 : BitVec 32 := 0#32
  let v281 : BitVec 1 := Scalar.cmpi .ne v2 c0_i32_179
  let v282 : BitVec 32 := Scalar.extui v281
  let c0_i32_180 : BitVec 32 := 0#32
  let v283 : BitVec 1 := Scalar.cmpi .ne v282 c0_i32_180
  v283

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev18 : Nat :=
  let c0_i32_566 : BitVec 32 := 0#32
  let c0_i32_564 : BitVec 32 := 0#32
  let c1_i32_565 : BitVec 32 := 1#32
  let v854 : BitVec 32 := Scalar.muli c0_i32_564 c1_i32_565
  let v855 : BitVec 32 := Scalar.addi c0_i32_566 v854
  v855.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_181 : BitVec 32 := 1#32
  let v284 : BitVec 1 := Scalar.cmpi .eq v2 c1_i32_181
  let v285 : BitVec 32 := Scalar.extui v284
  let c0_i32_182 : BitVec 32 := 0#32
  let v286 : BitVec 1 := Scalar.cmpi .ne v285 c0_i32_182
  v286

def k0_off6 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_183 : BitVec 32 := 1#32
  let v287 : BitVec 1 := Scalar.cmpi .ne v2 c1_i32_183
  let v288 : BitVec 32 := Scalar.extui v287
  let c0_i32_184 : BitVec 32 := 0#32
  let v289 : BitVec 1 := Scalar.cmpi .ne v288 c0_i32_184
  v289

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev19 : Nat :=
  let c0_i32_566 : BitVec 32 := 0#32
  let c1_i32_564 : BitVec 32 := 1#32
  let c1_i32_565 : BitVec 32 := 1#32
  let v854 : BitVec 32 := Scalar.muli c1_i32_564 c1_i32_565
  let v855 : BitVec 32 := Scalar.addi c0_i32_566 v854
  v855.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_185 : BitVec 32 := 2#32
  let v290 : BitVec 1 := Scalar.cmpi .eq v2 c2_i32_185
  let v291 : BitVec 32 := Scalar.extui v290
  let c0_i32_186 : BitVec 32 := 0#32
  let v292 : BitVec 1 := Scalar.cmpi .ne v291 c0_i32_186
  v292

def k0_off10 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_187 : BitVec 32 := 2#32
  let v293 : BitVec 1 := Scalar.cmpi .ne v2 c2_i32_187
  let v294 : BitVec 32 := Scalar.extui v293
  let c0_i32_188 : BitVec 32 := 0#32
  let v295 : BitVec 1 := Scalar.cmpi .ne v294 c0_i32_188
  v295

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev20 : Nat :=
  let c0_i32_566 : BitVec 32 := 0#32
  let c2_i32_564 : BitVec 32 := 2#32
  let c1_i32_565 : BitVec 32 := 1#32
  let v854 : BitVec 32 := Scalar.muli c2_i32_564 c1_i32_565
  let v855 : BitVec 32 := Scalar.addi c0_i32_566 v854
  v855.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_189 : BitVec 32 := 3#32
  let v296 : BitVec 1 := Scalar.cmpi .eq v2 c3_i32_189
  let v297 : BitVec 32 := Scalar.extui v296
  let c0_i32_190 : BitVec 32 := 0#32
  let v298 : BitVec 1 := Scalar.cmpi .ne v297 c0_i32_190
  v298

def k0_off14 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_191 : BitVec 32 := 3#32
  let v299 : BitVec 1 := Scalar.cmpi .ne v2 c3_i32_191
  let v300 : BitVec 32 := Scalar.extui v299
  let c0_i32_192 : BitVec 32 := 0#32
  let v301 : BitVec 1 := Scalar.cmpi .ne v300 c0_i32_192
  v301

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev21 : Nat :=
  let c0_i32_566 : BitVec 32 := 0#32
  let c3_i32_564 : BitVec 32 := 3#32
  let c1_i32_565 : BitVec 32 := 1#32
  let v854 : BitVec 32 := Scalar.muli c3_i32_564 c1_i32_565
  let v855 : BitVec 32 := Scalar.addi c0_i32_566 v854
  v855.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_193 : BitVec 32 := 4#32
  let v302 : BitVec 1 := Scalar.cmpi .eq v2 c4_i32_193
  let v303 : BitVec 32 := Scalar.extui v302
  let c0_i32_194 : BitVec 32 := 0#32
  let v304 : BitVec 1 := Scalar.cmpi .ne v303 c0_i32_194
  v304

def k0_off18 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_195 : BitVec 32 := 4#32
  let v305 : BitVec 1 := Scalar.cmpi .ne v2 c4_i32_195
  let v306 : BitVec 32 := Scalar.extui v305
  let c0_i32_196 : BitVec 32 := 0#32
  let v307 : BitVec 1 := Scalar.cmpi .ne v306 c0_i32_196
  v307

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev22 : Nat :=
  let c0_i32_566 : BitVec 32 := 0#32
  let c4_i32_564 : BitVec 32 := 4#32
  let c1_i32_565 : BitVec 32 := 1#32
  let v854 : BitVec 32 := Scalar.muli c4_i32_564 c1_i32_565
  let v855 : BitVec 32 := Scalar.addi c0_i32_566 v854
  v855.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_197 : BitVec 32 := 5#32
  let v308 : BitVec 1 := Scalar.cmpi .eq v2 c5_i32_197
  let v309 : BitVec 32 := Scalar.extui v308
  let c0_i32_198 : BitVec 32 := 0#32
  let v310 : BitVec 1 := Scalar.cmpi .ne v309 c0_i32_198
  v310

def k0_off22 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_199 : BitVec 32 := 5#32
  let v311 : BitVec 1 := Scalar.cmpi .ne v2 c5_i32_199
  let v312 : BitVec 32 := Scalar.extui v311
  let c0_i32_200 : BitVec 32 := 0#32
  let v313 : BitVec 1 := Scalar.cmpi .ne v312 c0_i32_200
  v313

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev23 : Nat :=
  let c0_i32_566 : BitVec 32 := 0#32
  let c5_i32_564 : BitVec 32 := 5#32
  let c1_i32_565 : BitVec 32 := 1#32
  let v854 : BitVec 32 := Scalar.muli c5_i32_564 c1_i32_565
  let v855 : BitVec 32 := Scalar.addi c0_i32_566 v854
  v855.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_201 : BitVec 32 := 6#32
  let v314 : BitVec 1 := Scalar.cmpi .eq v2 c6_i32_201
  let v315 : BitVec 32 := Scalar.extui v314
  let c0_i32_202 : BitVec 32 := 0#32
  let v316 : BitVec 1 := Scalar.cmpi .ne v315 c0_i32_202
  v316

def k0_off26 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_203 : BitVec 32 := 6#32
  let v317 : BitVec 1 := Scalar.cmpi .ne v2 c6_i32_203
  let v318 : BitVec 32 := Scalar.extui v317
  let c0_i32_204 : BitVec 32 := 0#32
  let v319 : BitVec 1 := Scalar.cmpi .ne v318 c0_i32_204
  v319

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev24 : Nat :=
  let c0_i32_566 : BitVec 32 := 0#32
  let c6_i32_564 : BitVec 32 := 6#32
  let c1_i32_565 : BitVec 32 := 1#32
  let v854 : BitVec 32 := Scalar.muli c6_i32_564 c1_i32_565
  let v855 : BitVec 32 := Scalar.addi c0_i32_566 v854
  v855.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_205 : BitVec 32 := 7#32
  let v320 : BitVec 1 := Scalar.cmpi .eq v2 c7_i32_205
  let v321 : BitVec 32 := Scalar.extui v320
  let c0_i32_206 : BitVec 32 := 0#32
  let v322 : BitVec 1 := Scalar.cmpi .ne v321 c0_i32_206
  v322

def k0_off30 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_207 : BitVec 32 := 7#32
  let v323 : BitVec 1 := Scalar.cmpi .ne v2 c7_i32_207
  let v324 : BitVec 32 := Scalar.extui v323
  let c0_i32_208 : BitVec 32 := 0#32
  let v325 : BitVec 1 := Scalar.cmpi .ne v324 c0_i32_208
  v325

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev25 : Nat :=
  let c0_i32_566 : BitVec 32 := 0#32
  let c7_i32_564 : BitVec 32 := 7#32
  let c1_i32_565 : BitVec 32 := 1#32
  let v854 : BitVec 32 := Scalar.muli c7_i32_564 c1_i32_565
  let v855 : BitVec 32 := Scalar.addi c0_i32_566 v854
  v855.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_220 : BitVec 32 := 8#32
  let v337 : BitVec 1 := Scalar.cmpi .eq v2 c8_i32_220
  let v338 : BitVec 32 := Scalar.extui v337
  let c0_i32_221 : BitVec 32 := 0#32
  let v339 : BitVec 1 := Scalar.cmpi .ne v338 c0_i32_221
  v339

def k0_off34 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_222 : BitVec 32 := 8#32
  let v340 : BitVec 1 := Scalar.cmpi .ne v2 c8_i32_222
  let v341 : BitVec 32 := Scalar.extui v340
  let c0_i32_223 : BitVec 32 := 0#32
  let v342 : BitVec 1 := Scalar.cmpi .ne v341 c0_i32_223
  v342

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev26 : Nat :=
  let c0_i32_566 : BitVec 32 := 0#32
  let c8_i32_564 : BitVec 32 := 8#32
  let c1_i32_565 : BitVec 32 := 1#32
  let v854 : BitVec 32 := Scalar.muli c8_i32_564 c1_i32_565
  let v855 : BitVec 32 := Scalar.addi c0_i32_566 v854
  v855.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_224 : BitVec 32 := 9#32
  let v343 : BitVec 1 := Scalar.cmpi .eq v2 c9_i32_224
  let v344 : BitVec 32 := Scalar.extui v343
  let c0_i32_225 : BitVec 32 := 0#32
  let v345 : BitVec 1 := Scalar.cmpi .ne v344 c0_i32_225
  v345

def k0_off38 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_226 : BitVec 32 := 9#32
  let v346 : BitVec 1 := Scalar.cmpi .ne v2 c9_i32_226
  let v347 : BitVec 32 := Scalar.extui v346
  let c0_i32_227 : BitVec 32 := 0#32
  let v348 : BitVec 1 := Scalar.cmpi .ne v347 c0_i32_227
  v348

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev27 : Nat :=
  let c0_i32_566 : BitVec 32 := 0#32
  let c9_i32_564 : BitVec 32 := 9#32
  let c1_i32_565 : BitVec 32 := 1#32
  let v854 : BitVec 32 := Scalar.muli c9_i32_564 c1_i32_565
  let v855 : BitVec 32 := Scalar.addi c0_i32_566 v854
  v855.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_228 : BitVec 32 := 10#32
  let v349 : BitVec 1 := Scalar.cmpi .eq v2 c10_i32_228
  let v350 : BitVec 32 := Scalar.extui v349
  let c0_i32_229 : BitVec 32 := 0#32
  let v351 : BitVec 1 := Scalar.cmpi .ne v350 c0_i32_229
  v351

def k0_off42 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_230 : BitVec 32 := 10#32
  let v352 : BitVec 1 := Scalar.cmpi .ne v2 c10_i32_230
  let v353 : BitVec 32 := Scalar.extui v352
  let c0_i32_231 : BitVec 32 := 0#32
  let v354 : BitVec 1 := Scalar.cmpi .ne v353 c0_i32_231
  v354

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev28 : Nat :=
  let c0_i32_566 : BitVec 32 := 0#32
  let c10_i32_564 : BitVec 32 := 10#32
  let c1_i32_565 : BitVec 32 := 1#32
  let v854 : BitVec 32 := Scalar.muli c10_i32_564 c1_i32_565
  let v855 : BitVec 32 := Scalar.addi c0_i32_566 v854
  v855.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_232 : BitVec 32 := 11#32
  let v355 : BitVec 1 := Scalar.cmpi .eq v2 c11_i32_232
  let v356 : BitVec 32 := Scalar.extui v355
  let c0_i32_233 : BitVec 32 := 0#32
  let v357 : BitVec 1 := Scalar.cmpi .ne v356 c0_i32_233
  v357

def k0_off46 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_234 : BitVec 32 := 11#32
  let v358 : BitVec 1 := Scalar.cmpi .ne v2 c11_i32_234
  let v359 : BitVec 32 := Scalar.extui v358
  let c0_i32_235 : BitVec 32 := 0#32
  let v360 : BitVec 1 := Scalar.cmpi .ne v359 c0_i32_235
  v360

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev29 : Nat :=
  let c0_i32_566 : BitVec 32 := 0#32
  let c11_i32_564 : BitVec 32 := 11#32
  let c1_i32_565 : BitVec 32 := 1#32
  let v854 : BitVec 32 := Scalar.muli c11_i32_564 c1_i32_565
  let v855 : BitVec 32 := Scalar.addi c0_i32_566 v854
  v855.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_236 : BitVec 32 := 12#32
  let v361 : BitVec 1 := Scalar.cmpi .eq v2 c12_i32_236
  let v362 : BitVec 32 := Scalar.extui v361
  let c0_i32_237 : BitVec 32 := 0#32
  let v363 : BitVec 1 := Scalar.cmpi .ne v362 c0_i32_237
  v363

def k0_off50 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_238 : BitVec 32 := 12#32
  let v364 : BitVec 1 := Scalar.cmpi .ne v2 c12_i32_238
  let v365 : BitVec 32 := Scalar.extui v364
  let c0_i32_239 : BitVec 32 := 0#32
  let v366 : BitVec 1 := Scalar.cmpi .ne v365 c0_i32_239
  v366

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev30 : Nat :=
  let c0_i32_566 : BitVec 32 := 0#32
  let c12_i32_564 : BitVec 32 := 12#32
  let c1_i32_565 : BitVec 32 := 1#32
  let v854 : BitVec 32 := Scalar.muli c12_i32_564 c1_i32_565
  let v855 : BitVec 32 := Scalar.addi c0_i32_566 v854
  v855.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_240 : BitVec 32 := 13#32
  let v367 : BitVec 1 := Scalar.cmpi .eq v2 c13_i32_240
  let v368 : BitVec 32 := Scalar.extui v367
  let c0_i32_241 : BitVec 32 := 0#32
  let v369 : BitVec 1 := Scalar.cmpi .ne v368 c0_i32_241
  v369

def k0_off54 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_242 : BitVec 32 := 13#32
  let v370 : BitVec 1 := Scalar.cmpi .ne v2 c13_i32_242
  let v371 : BitVec 32 := Scalar.extui v370
  let c0_i32_243 : BitVec 32 := 0#32
  let v372 : BitVec 1 := Scalar.cmpi .ne v371 c0_i32_243
  v372

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev31 : Nat :=
  let c0_i32_566 : BitVec 32 := 0#32
  let c13_i32_564 : BitVec 32 := 13#32
  let c1_i32_565 : BitVec 32 := 1#32
  let v854 : BitVec 32 := Scalar.muli c13_i32_564 c1_i32_565
  let v855 : BitVec 32 := Scalar.addi c0_i32_566 v854
  v855.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_244 : BitVec 32 := 14#32
  let v373 : BitVec 1 := Scalar.cmpi .eq v2 c14_i32_244
  let v374 : BitVec 32 := Scalar.extui v373
  let c0_i32_245 : BitVec 32 := 0#32
  let v375 : BitVec 1 := Scalar.cmpi .ne v374 c0_i32_245
  v375

def k0_off58 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_246 : BitVec 32 := 14#32
  let v376 : BitVec 1 := Scalar.cmpi .ne v2 c14_i32_246
  let v377 : BitVec 32 := Scalar.extui v376
  let c0_i32_247 : BitVec 32 := 0#32
  let v378 : BitVec 1 := Scalar.cmpi .ne v377 c0_i32_247
  v378

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev32 : Nat :=
  let c0_i32_566 : BitVec 32 := 0#32
  let c14_i32_564 : BitVec 32 := 14#32
  let c1_i32_565 : BitVec 32 := 1#32
  let v854 : BitVec 32 := Scalar.muli c14_i32_564 c1_i32_565
  let v855 : BitVec 32 := Scalar.addi c0_i32_566 v854
  v855.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_248 : BitVec 32 := 15#32
  let v379 : BitVec 1 := Scalar.cmpi .eq v2 c15_i32_248
  let v380 : BitVec 32 := Scalar.extui v379
  let c0_i32_249 : BitVec 32 := 0#32
  let v381 : BitVec 1 := Scalar.cmpi .ne v380 c0_i32_249
  v381

def k0_off62 (d0 : Dev nD) : Fin 2 → Nat :=
  let c0_560 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_559 : BitVec 32 := 128#32
  let v851 : BitVec 32 := Scalar.muli v2 c128_i32_559
  let v852 : Index := Scalar.indexCast v851
  ![0, v852.toNat]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_561 : BitVec 32 := 128#32
  let v854 : BitVec 32 := Scalar.muli v2 c128_i32_561
  let v855 : Index := Scalar.indexCast v854
  let c0_562 : Index := 0#32
  ![v855.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_250 : BitVec 32 := 15#32
  let v382 : BitVec 1 := Scalar.cmpi .ne v2 c15_i32_250
  let v383 : BitVec 32 := Scalar.extui v382
  let c0_i32_251 : BitVec 32 := 0#32
  let v384 : BitVec 1 := Scalar.cmpi .ne v383 c0_i32_251
  v384

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_562 : BitVec 32 := 128#32
  let v853 : BitVec 32 := Scalar.muli v2 c128_i32_562
  let c0_i32_567 : BitVec 32 := 0#32
  ![v853.toNat, 0]
def k0_dev33 : Nat :=
  let c0_i32_566 : BitVec 32 := 0#32
  let c15_i32_564 : BitVec 32 := 15#32
  let c1_i32_565 : BitVec 32 := 1#32
  let v854 : BitVec 32 := Scalar.muli c15_i32_564 c1_i32_565
  let v855 : BitVec 32 := Scalar.addi c0_i32_566 v854
  v855.toNat
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v385 : BitVec 32 := Scalar.muli v2 c128_i32
  let v386 : Index := Scalar.indexCast v385
  let c0_252 : Index := 0#32
  ![v386.toNat, 0]
def k0_off67 (d0 : Dev nD) (c1_i32_255 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v394 : BitVec 32 := Scalar.subi v2 c1_i32_255
  let c16_i32_256 : BitVec 32 := 16#32
  let c0_i32_257 : BitVec 32 := 0#32
  let v395 : BitVec 1 := Scalar.cmpi .eq c16_i32_256 c0_i32_257
  let c1_i32_258 : BitVec 32 := 1#32
  let v396 : BitVec 32 := Scalar.select v395 c1_i32_258 c16_i32_256
  let v397 : BitVec 32 := Scalar.remsi v394 v396
  let c0_i32_260 : BitVec 32 := 0#32
  let v399 : BitVec 1 := Scalar.cmpi .slt v397 c0_i32_260
  let c0_i32_261 : BitVec 32 := 0#32
  let v400 : BitVec 1 := Scalar.cmpi .slt v396 c0_i32_261
  let v401 : BitVec 1 := Scalar.xori v399 v400
  let c0_i32_259 : BitVec 32 := 0#32
  let v398 : BitVec 1 := Scalar.cmpi .ne v397 c0_i32_259
  let v402 : BitVec 1 := Scalar.andi v401 v398
  let v403 : BitVec 32 := Scalar.addi v397 v396
  let v404 : BitVec 32 := Scalar.select v402 v403 v397
  ![v404.toNat]
def k0_off68 (d0 : Dev nD) (c1_i32_255 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v394 : BitVec 32 := Scalar.subi v2 c1_i32_255
  let c16_i32_256 : BitVec 32 := 16#32
  let c0_i32_257 : BitVec 32 := 0#32
  let v395 : BitVec 1 := Scalar.cmpi .eq c16_i32_256 c0_i32_257
  let c1_i32_258 : BitVec 32 := 1#32
  let v396 : BitVec 32 := Scalar.select v395 c1_i32_258 c16_i32_256
  let v397 : BitVec 32 := Scalar.remsi v394 v396
  let c0_i32_260 : BitVec 32 := 0#32
  let v399 : BitVec 1 := Scalar.cmpi .slt v397 c0_i32_260
  let c0_i32_261 : BitVec 32 := 0#32
  let v400 : BitVec 1 := Scalar.cmpi .slt v396 c0_i32_261
  let v401 : BitVec 1 := Scalar.xori v399 v400
  let c0_i32_259 : BitVec 32 := 0#32
  let v398 : BitVec 1 := Scalar.cmpi .ne v397 c0_i32_259
  let v402 : BitVec 1 := Scalar.andi v401 v398
  let v403 : BitVec 32 := Scalar.addi v397 v396
  let v404 : BitVec 32 := Scalar.select v402 v403 v397
  let c128_i32_262 : BitVec 32 := 128#32
  let v405 : BitVec 32 := Scalar.muli v404 c128_i32_262
  let c0_i32_266 : BitVec 32 := 0#32
  ![v405.toNat, 0]
def k0_off69 (d0 : Dev nD) (c1_i32_255 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v394 : BitVec 32 := Scalar.subi v2 c1_i32_255
  let c16_i32_256 : BitVec 32 := 16#32
  let c0_i32_257 : BitVec 32 := 0#32
  let v395 : BitVec 1 := Scalar.cmpi .eq c16_i32_256 c0_i32_257
  let c1_i32_258 : BitVec 32 := 1#32
  let v396 : BitVec 32 := Scalar.select v395 c1_i32_258 c16_i32_256
  let v397 : BitVec 32 := Scalar.remsi v394 v396
  let c0_i32_260 : BitVec 32 := 0#32
  let v399 : BitVec 1 := Scalar.cmpi .slt v397 c0_i32_260
  let c0_i32_261 : BitVec 32 := 0#32
  let v400 : BitVec 1 := Scalar.cmpi .slt v396 c0_i32_261
  let v401 : BitVec 1 := Scalar.xori v399 v400
  let c0_i32_259 : BitVec 32 := 0#32
  let v398 : BitVec 1 := Scalar.cmpi .ne v397 c0_i32_259
  let v402 : BitVec 1 := Scalar.andi v401 v398
  let v403 : BitVec 32 := Scalar.addi v397 v396
  let v404 : BitVec 32 := Scalar.select v402 v403 v397
  let c128_i32_269 : BitVec 32 := 128#32
  let v412 : BitVec 32 := Scalar.muli v404 c128_i32_269
  let v413 : Index := Scalar.indexCast v412
  let c0_270 : Index := 0#32
  ![v413.toNat, 0]
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/-
The all-to-all matrix product: the buffers and semaphores of one device by index, the contents they hold, and the
protocol the sixteen devices follow.

Every device multiplies its 128 rows of `x` by `w`, rounds, and sends column block `j` of the product to device `j`,
which stores it at row block `my` of its receive buffer and widens it into its result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the protocol's rounds. -/
abbrev UB : Type := URounds (GSem nD τ sig) Bool
/-- The whole ghost state: the launch's own, and the protocol's. -/
abbrev UU : Type := UR sig nD τ × UB

local notation "𝕄" => MT nD τ sig Unit (Elt F) ℕ UU ℕ

/-- Where the launch's ghost state lies in the whole. -/
abbrev EP : Emb (UR sig nD τ) (MT nD τ sig Unit (Elt F) ℕ UU ℕ) := embL
/-- Where the protocol's ghost state lies in the whole. -/
abbrev ER : Emb UB (MT nD τ sig Unit (Elt F) ℕ UU ℕ) := embR

/-- The program has no loops that need a variant. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers and their blocks -/

/-- The device's rows of `x`, as given. -/
abbrev xH : Memref sig .tc .hbm S128x2048 .f32 := Memref.whole main_arg0
/-- `w`, as given. -/
abbrev wH : Memref sig .tc .hbm S2048x2048 .f32 := Memref.whole main_arg1
/-- The device's result. -/
abbrev oH : Memref sig .tc .hbm S2048x128 .f32 := Memref.whole main_v1
/-- The scratch copy of the rows of `x`. -/
abbrev xM : Memref sig .tc .vmem S128x2048 .f32 := Memref.whole cc0_scratch0
/-- The scratch copy of `w`. -/
abbrev wM : Memref sig .tc .vmem S2048x2048 .f32 := Memref.whole cc0_scratch1
/-- The scratch for the rounded product. -/
abbrev yM : Memref sig .tc .vmem S128x2048 .bf16 := Memref.whole cc0_scratch2
/-- The receive buffer. -/
abbrev rM : Memref sig .tc .vmem S2048x128 .bf16 := Memref.whole cc0_scratch3
/-- The scratch for the widened result. -/
abbrev oM : Memref sig .tc .vmem S2048x128 .f32 := Memref.whole cc0_scratch4

/-- A column block lies in the product. -/
theorem inbY (j : Dev nD) : ∀ a, (![0, 128 * j.val] : Fin 2 → Nat) a + S128x128.size a ≤ S128x2048.size a := by
  revert j; decide
/-- A row block lies in the receive buffer. -/
theorem inbR (j : Dev nD) : ∀ a, (![128 * j.val, 0] : Fin 2 → Nat) a + S128x128.size a ≤ S2048x128.size a := by
  revert j; decide
/-- A half of the columns lies in `w`. -/
theorem inbW (h : Fin 2) : ∀ a, (![0, 1024 * h.val] : Fin 2 → Nat) a + S2048x1024.size a ≤ S2048x2048.size a := by
  revert h; decide
/-- A half of the columns lies in the product. -/
theorem inbYh (h : Fin 2) : ∀ a, (![0, 1024 * h.val] : Fin 2 → Nat) a + S128x1024.size a ≤ S128x2048.size a := by
  revert h; decide

/-- Column block `j` of the product buffer. -/
abbrev rectY (j : Dev nD) : Rect S128x2048 := Rect.unit (s := S128x2048) ![0, 128 * j.val] S128x128.size (inbY j)
/-- Row block `j` of a 2048×128 buffer. -/
abbrev rectR (j : Dev nD) : Rect S2048x128 := Rect.unit (s := S2048x128) ![128 * j.val, 0] S128x128.size (inbR j)
/-- Column half `h` of `w`. -/
abbrev rectW (h : Fin 2) : Rect S2048x2048 := Rect.unit (s := S2048x2048) ![0, 1024 * h.val] S2048x1024.size (inbW h)
/-- Column half `h` of the product buffer. -/
abbrev rectYh (h : Fin 2) : Rect S128x2048 := Rect.unit (s := S128x2048) ![0, 1024 * h.val] S128x1024.size (inbYh h)

/-- Column block `j` of the product. -/
abbrev yBlk (j : Dev nD) : Memref sig .tc .vmem S128x128 .bf16 := yM.slice (rectY j) (fun _ => rfl)
/-- Row block `j` of the receive buffer. -/
abbrev rBlk (j : Dev nD) : Memref sig .tc .vmem S128x128 .bf16 := rM.slice (rectR j) (fun _ => rfl)
/-- Half `h` of the scratch copy of `w`. -/
abbrev wBlk (h : Fin 2) : Memref sig .tc .vmem S2048x1024 .f32 := wM.slice (rectW h) (fun _ => rfl)
/-- Half `h` of the `w` given. -/
abbrev wHBlk (h : Fin 2) : Memref sig .tc .hbm S2048x1024 .f32 := wH.slice (rectW h) (fun _ => rfl)
/-- Half `h` of the product. -/
abbrev yHalf (h : Fin 2) : Memref sig .tc .vmem S128x1024 .bf16 := yM.slice (rectYh h) (fun _ => rfl)

/-! ## Semaphores and cells -/

/-- The runtime's barrier semaphore. -/
abbrev barS : Sem sig := (SemArray.scalar (sig.barrier 0 rfl) : Sems sig S_).sem
/-- Entry `j` of the ready array. -/
def readyS (j : Dev nD) : Sem sig := ⟨j.val, by have : j.val < 16 := j.isLt; show j.val < 17; omega⟩
/-- Entry `i` of the array of local transfers. -/
def inS (i : Fin 4) : DmaSem sig := ⟨i.val, by have := i.isLt; show i.val < 36; omega⟩
/-- Entry `j` of the send array. -/
def sendS (j : Dev nD) : DmaSem sig := ⟨4 + j.val, by have : j.val < 16 := j.isLt; show 4 + j.val < 36; omega⟩
/-- Entry `j` of the receive array. -/
def recvS (j : Dev nD) : DmaSem sig := ⟨20 + j.val, by have : j.val < 16 := j.isLt; show 20 + j.val < 36; omega⟩

/-- The cell of semaphore `s` on device `p.1`. -/
abbrev kcell (p : Dev nD × SemLoc sig) : GSem nD τ sig := ((p.1 : Thread nD τ), p.2)
/-- Device `c`'s barrier. -/
abbrev barCell (c : Dev nD) : GSem nD τ sig := kcell (c, .reg barS)
/-- Device `c`'s ready semaphore for device `j`. -/
abbrev readyCell (c j : Dev nD) : GSem nD τ sig := kcell (c, .reg (readyS j))
/-- Device `c`'s semaphore for local copy `i`. -/
abbrev inCell (c : Dev nD) (i : Fin 4) : GSem nD τ sig := kcell (c, .dma (inS i))
/-- Device `c`'s send semaphore for device `j`. -/
abbrev sendCell (c j : Dev nD) : GSem nD τ sig := kcell (c, .dma (sendS j))
/-- Device `c`'s receive semaphore for device `j`. -/
abbrev recvCell (c j : Dev nD) : GSem nD τ sig := kcell (c, .dma (recvS j))

/-- The element of a semaphore array at a literal or computed offset is the one named by that index. -/
theorem readyS_eq {off : Fin 1 → Nat} (inb : ∀ a, off a + S1.size a ≤ S16.size a) (j : Dev nD) (h : off = ![j.val]) :
    ((cc0_scratch8.slice (Rect.unit (s := S16) off S1.size inb)).squeeze S_ squeezes_S1_S_).sem = readyS j := by
  subst h; revert j; decide
/-- The semaphore taken at offset `i` of the local ones is the `i`-th. -/
theorem inS_eq {off : Fin 1 → Nat} (inb : ∀ a, off a + S1.size a ≤ S4.size a) (i : Fin 4) (h : off = ![i.val]) :
    ((cc0_scratch5.slice (Rect.unit (s := S4) off S1.size inb)).squeeze S_ squeezes_S1_S_).sem = inS i := by
  subst h; revert i; decide
/-- The semaphore taken at offset `j` of the send semaphores is the `j`-th. -/
theorem sendS_eq {off : Fin 1 → Nat} (inb : ∀ a, off a + S1.size a ≤ S16.size a) (j : Dev nD) (h : off = ![j.val]) :
    ((cc0_scratch6.slice (Rect.unit (s := S16) off S1.size inb)).squeeze S_ squeezes_S1_S_).sem = sendS j := by
  subst h; revert j; decide
/-- The semaphore taken at offset `j` of the receive semaphores is the `j`-th. -/
theorem recvS_eq {off : Fin 1 → Nat} (inb : ∀ a, off a + S1.size a ≤ S16.size a) (j : Dev nD) (h : off = ![j.val]) :
    ((cc0_scratch7.slice (Rect.unit (s := S16) off S1.size inb)).squeeze S_ squeezes_S1_S_).sem = recvS j := by
  subst h; revert j; decide

/-- The credits of one transfer: of `x`, of half of `w`, of the result, of one block. -/
@[irreducible] def Nx : ℕ := (xM : Memref sig .tc .vmem S128x2048 .f32).view.dmaCredit
/-- The credit of the copy of a half of `w`. -/
@[irreducible] def Nw : ℕ := (wBlk 0).view.dmaCredit
/-- The credit of the copy of the result. -/
@[irreducible] def No : ℕ := (oH : Memref sig .tc .hbm S2048x128 .f32).view.dmaCredit
/-- The credit of the copy of a block. -/
@[irreducible] def Nb : ℕ := (rBlk 0).view.dmaCredit

/-- The copy of the rows of `x` credits something. -/
theorem Nx_pos : 0 < Nx := by unfold Nx; exact View.dmaCredit_pos _ (by decide)
/-- So does the copy of a half of `w`. -/
theorem Nw_pos : 0 < Nw := by unfold Nw; exact View.dmaCredit_pos _ (by decide)
/-- So does the copy of the result. -/
theorem No_pos : 0 < No := by unfold No; exact View.dmaCredit_pos _ (by decide)
/-- So does the copy of a block. -/
theorem Nb_pos : 0 < Nb := by unfold Nb; exact View.dmaCredit_pos _ (by decide)

/-- What the copy of the rows of `x` credits, by its destination. -/
theorem Nx_eq : (xM : Memref sig .tc .vmem S128x2048 .f32).view.dmaCredit = Nx := by unfold Nx; rfl
/-- What the copy of a half of `w` credits: the same for both. -/
theorem Nw_eq (h : Fin 2) : (wBlk h).view.dmaCredit = Nw := by unfold Nw; rfl
/-- What the copy of the result credits. -/
theorem No_eq : (oH : Memref sig .tc .hbm S2048x128 .f32).view.dmaCredit = No := by unfold No; rfl
/-- What a landing credits: the same for every row block. -/
theorem Nb_eq (j : Dev nD) : (rBlk j).view.dmaCredit = Nb := by unfold Nb; rfl
/-- A column block credits as much as a row block. -/
theorem Nb_eq' (j : Dev nD) : (yBlk j).view.dmaCredit = Nb := by unfold Nb; rfl

/-! ## Contents -/

/-- Device `c`'s block of `x`. -/
def XF (c : Dev nD) : S128x2048.Idx → Elt F .f32 := m ((c : Thread nD τ).loc main_arg0)
/-- Device `c`'s copy of `w`. -/
def WF (c : Dev nD) : S2048x2048.Idx → Elt F .f32 := m ((c : Thread nD τ).loc main_arg1)
/-- Column half `h` of `w` as the kernel loads it. -/
def WH (c : Dev nD) (h : Fin 2) : S2048x1024.Idx → Elt F .f32 :=
  (wM : Memref sig .tc .vmem S2048x2048 .f32).view.readAt (Elt F) (rectW h).toLoadRect (WF m c)

/-- The half a column of the product lies in. -/
def halfOf (i : S128x2048.Idx) : Fin 2 := ⟨(i 1).val / 1024, by have h : (i 1).val < 2048 := (i 1).isLt; omega⟩
/-- A column of the product within its half. -/
def inHalf (i : S128x2048.Idx) : S128x1024.Idx :=
  Shape.pair (d := ![128, 1024]) (i 0) ⟨(i 1).val % 1024, Nat.mod_lt _ (by decide)⟩
/-- Device `c`'s rows of the product, rounded: each half from that half of `w`. -/
def YF (c : Dev nD) : S128x2048.Idx → Elt F .bf16 := fun i => k0_pay1 (XF m c) (WH m c (halfOf i)) (inHalf i)

/-- The device whose rows of the product are at row `i` of a receive buffer. -/
def srcOf (i : S2048x128.Idx) : Dev nD :=
  ⟨(i 0).val / 128, by have h : (i 0).val < 2048 := (i 0).isLt; show _ < 16; omega⟩
/-- Where, in its source's product, the element of `c`'s receive buffer at `i` comes from. -/
def srcIdx (c : Dev nD) (i : S2048x128.Idx) : S128x2048.Idx :=
  Shape.pair (d := ![128, 2048]) ⟨(i 0).val % 128, Nat.mod_lt _ (by decide)⟩
    ⟨128 * c.val + (i 1).val, by
      have h : (i 1).val < 128 := (i 1).isLt
      have hc : c.val < 16 := c.isLt
      show _ < 2048; omega⟩
/-- Device `c`'s receive buffer when every block has come: row block `s` is column block `c` of device `s`'s product. -/
def RF (c : Dev nD) : S2048x128.Idx → Elt F .bf16 := fun i => YF m (srcOf i) (srcIdx c i)
/-- Device `c`'s result: its receive buffer widened. -/
def OF (c : Dev nD) : S2048x128.Idx → Elt F .f32 := fun i => FloatOps.extf .f32 bitsLt_bf16_f32 (RF m c i)

/-! ### Indices under a block -/

/-- Where an entry of column block `j` lies in the product. -/
theorem emb_rectY (j : Dev nD) (x : S128x128.Idx) :
    ((rectY j).emb x 0).val = (x 0).val ∧ ((rectY j).emb x 1).val = 128 * j.val + (x 1).val := by
  refine ⟨?_, ?_⟩
  · exact (ValueKit.rect_emb_unit_val _ _ _ _ _).trans (Nat.zero_add _)
  · exact ValueKit.rect_emb_unit_val _ _ _ _ _
/-- Where an entry of row block `j` lies in the receive buffer. -/
theorem emb_rectR (j : Dev nD) (x : S128x128.Idx) :
    ((rectR j).emb x 0).val = 128 * j.val + (x 0).val ∧ ((rectR j).emb x 1).val = (x 1).val := by
  refine ⟨?_, ?_⟩
  · exact ValueKit.rect_emb_unit_val _ _ _ _ _
  · exact (ValueKit.rect_emb_unit_val _ _ _ _ _).trans (Nat.zero_add _)
/-- Where an entry of half `h` lies in the product. -/
theorem emb_rectYh (h : Fin 2) (x : S128x1024.Idx) :
    ((rectYh h).emb x 0).val = (x 0).val ∧ ((rectYh h).emb x 1).val = 1024 * h.val + (x 1).val := by
  refine ⟨?_, ?_⟩
  · exact (ValueKit.rect_emb_unit_val _ _ _ _ _).trans (Nat.zero_add _)
  · exact ValueKit.rect_emb_unit_val _ _ _ _ _

/-- Two indices of a matrix are equal when their coordinates are. -/
theorem idx_ext {d : Fin 2 → Nat} {i j : (⟨2, d⟩ : Shape).Idx} (h0 : (i 0).val = (j 0).val) (h1 : (i 1).val = (j 1).val) :
    i = j := by
  funext a; apply Fin.ext; fin_cases a
  · exact h0
  · exact h1

/-- Column block `j` holds the columns whose number divided by 128 is `j`. -/
theorem mem_yBlk (j : Dev nD) (i : S128x2048.Idx) : Iff (i ∈ (yBlk j).view.set) ((i 1).val / 128 = j.val) := by
  refine (ValueKit.mem_set_slice_whole_iff cc0_scratch2 (rectY j) i Rect.mem_set_unit).trans ?_
  refine Fin.forall_fin_two.trans ?_
  have h0 : (i 0).val < 128 := (i 0).isLt
  show ((0 ≤ (i 0).val ∧ (i 0).val < 0 + 128) ∧ (128 * j.val ≤ (i 1).val ∧ (i 1).val < 128 * j.val + 128)) ↔ _
  omega
/-- Half `h` of the product holds the columns whose number divided by 1024 is `h`. -/
theorem mem_yHalf (h : Fin 2) (i : S128x2048.Idx) : Iff (i ∈ (yHalf h).view.set) ((i 1).val / 1024 = h.val) := by
  refine (ValueKit.mem_set_slice_whole_iff cc0_scratch2 (rectYh h) i Rect.mem_set_unit).trans ?_
  refine Fin.forall_fin_two.trans ?_
  have h0 : (i 0).val < 128 := (i 0).isLt
  show ((0 ≤ (i 0).val ∧ (i 0).val < 0 + 128) ∧ (1024 * h.val ≤ (i 1).val ∧ (i 1).val < 1024 * h.val + 1024)) ↔ _
  omega
/-- Row block `j` holds the rows whose number divided by 128 is `j`. -/
theorem mem_rBlk (j : Dev nD) (i : S2048x128.Idx) : Iff (i ∈ (rBlk j).view.set) ((i 0).val / 128 = j.val) := by
  refine (ValueKit.mem_set_slice_whole_iff cc0_scratch3 (rectR j) i Rect.mem_set_unit).trans ?_
  refine Fin.forall_fin_two.trans ?_
  have h0 : (i 1).val < 128 := (i 1).isLt
  show ((128 * j.val ≤ (i 0).val ∧ (i 0).val < 128 * j.val + 128) ∧ (0 ≤ (i 1).val ∧ (i 1).val < 0 + 128)) ↔ _
  omega
/-- Row block `j` of the widened result likewise. -/
theorem mem_oRow (j : Dev nD) (i : S2048x128.Idx) :
    Iff (i ∈ (oM.slice (rectR j) (fun _ => rfl)).view.set) ((i 0).val / 128 = j.val) := by
  refine (ValueKit.mem_set_slice_whole_iff cc0_scratch4 (rectR j) i Rect.mem_set_unit).trans ?_
  refine Fin.forall_fin_two.trans ?_
  have h0 : (i 1).val < 128 := (i 1).isLt
  show ((128 * j.val ≤ (i 0).val ∧ (i 0).val < 128 * j.val + 128) ∧ (0 ≤ (i 1).val ∧ (i 1).val < 0 + 128)) ↔ _
  omega
/-- Half `h` of `w` holds the columns whose number divided by 1024 is `h`. -/
theorem mem_wBlk (h : Fin 2) (i : S2048x2048.Idx) : Iff (i ∈ (wBlk h).view.set) ((i 1).val / 1024 = h.val) := by
  refine (ValueKit.mem_set_slice_whole_iff cc0_scratch1 (rectW h) i Rect.mem_set_unit).trans ?_
  refine Fin.forall_fin_two.trans ?_
  have h0 : (i 0).val < 2048 := (i 0).isLt
  show ((0 ≤ (i 0).val ∧ (i 0).val < 0 + 2048) ∧ (1024 * h.val ≤ (i 1).val ∧ (i 1).val < 1024 * h.val + 1024)) ↔ _
  omega
/-- The half of the given `w` and the half of its copy have the same places. -/
theorem wHBlk_set (h : Fin 2) : (wHBlk h).view.set = (wBlk h).view.set := by
  show ((View.whole main_arg1).slice (rectW h)).set = ((View.whole cc0_scratch1).slice (rectW h)).set
  rw [View.set_slice_whole, View.set_slice_whole]

/-! ### What a block written holds -/

/-- The stored half of the product is the product on that half. -/
theorem store_half (c : Dev nD) (h : Fin 2) (f : S128x2048.Idx → Elt F .bf16) (i : S128x2048.Idx) (hi : i ∈ (yHalf h).view.set) :
    ((yM : Memref sig .tc .vmem S128x2048 .bf16).access (rectYh h) : View sig .tc _ _ _).write (Elt F) f
      (k0_pay1 (XF m c) (WH m c h)) Finset.univ i = YF m c i := by
  obtain ⟨x, -, rfl⟩ := Finset.mem_map.mp hi
  refine (View.write_emb_of_mem _ _ (Finset.mem_univ x)).trans ?_
  obtain ⟨e0, e1⟩ := emb_rectYh h x
  have hx1 : (x 1).val < 1024 := (x 1).isLt
  have hh : halfOf ((rectYh h).emb x) = h := Fin.ext (by unfold halfOf; show _ / 1024 = _; rw [e1]; omega)
  have hx : inHalf ((rectYh h).emb x) = x := idx_ext e0 (by show _ % 1024 = _; rw [e1]; omega)
  show k0_pay1 (XF m c) (WH m c h) x = k0_pay1 (XF m c) (WH m c (halfOf ((rectYh h).emb x))) (inHalf ((rectYh h).emb x))
  rw [hh, hx]

/-- Row block `s` of what device `c` receives is column block `c` of device `s`'s product. -/
theorem RF_emb (c s : Dev nD) (x : S128x128.Idx) : RF m c ((rectR s).emb x) = YF m s ((rectY c).emb x) := by
  obtain ⟨e0, e1⟩ := emb_rectR s x
  obtain ⟨f0, f1⟩ := emb_rectY c x
  have hx0 : (x 0).val < 128 := (x 0).isLt
  have hx1 : (x 1).val < 128 := (x 1).isLt
  have hs : srcOf ((rectR s).emb x) = s := Fin.ext (by unfold srcOf; show _ / 128 = _; rw [e0]; omega)
  have hi : srcIdx c ((rectR s).emb x) = (rectY c).emb x :=
    idx_ext (by rw [f0]; show _ % 128 = _; rw [e0]; omega) (by rw [f1]; show 128 * c.val + _ = _; rw [e1])
  unfold RF; rw [hs, hi]

/-- Column block `c` of device `s`'s product, landed at row block `s` of `c`'s receive buffer, is what that buffer is to
    hold there. -/
theorem land_block (c s : Dev nD) (f : S2048x128.Idx → Elt F .bf16) (i : S2048x128.Idx) (hi : i ∈ (rBlk s).view.set) :
    (rBlk s).view.write (Elt F) f ((yBlk c).view.read (Elt F) (YF m s)) Finset.univ i = RF m c i := by
  obtain ⟨x, -, rfl⟩ := Finset.mem_map.mp hi
  refine (View.write_emb_of_mem _ _ (Finset.mem_univ x)).trans ?_
  exact (RF_emb m c s x).symm

/-- The widened row block `s`, stored in the result, is the result there. -/
theorem store_row (c s : Dev nD) (f : S2048x128.Idx → Elt F .f32) (w : S128x128.Idx → Elt F .f32)
    (hw : ∀ x, w x = FloatOps.extf .f32 bitsLt_bf16_f32 (RF m c ((rectR s).emb x))) (i : S2048x128.Idx) (hi : (i 0).val / 128 = s.val) :
    ((oM : Memref sig .tc .vmem S2048x128 .f32).access (rectR s) : View sig .tc _ _ _).write (Elt F) f w Finset.univ i = OF m c i := by
  obtain ⟨x, -, rfl⟩ := Finset.mem_map.mp ((mem_oRow s i).mpr hi)
  refine (View.write_emb_of_mem _ _ (Finset.mem_univ x)).trans ?_
  exact hw x
/-- Elsewhere the store leaves the result as it was. -/
theorem store_row_ne (s : Dev nD) (f : S2048x128.Idx → Elt F .f32) (w : S128x128.Idx → Elt F .f32)
    (i : S2048x128.Idx) (hi : (i 0).val / 128 ≠ s.val) :
    ((oM : Memref sig .tc .vmem S2048x128 .f32).access (rectR s) : View sig .tc _ _ _).write (Elt F) f w Finset.univ i = f i :=
  View.write_of_not_mem _ _ _ (fun h => hi ((mem_oRow s i).mp h))

/-- A half of `w` copied into the buffer for it is `w` there. -/
theorem land_w (c : Dev nD) (h : Fin 2) (f : S2048x2048.Idx → Elt F .f32) (i : S2048x2048.Idx) (hi : i ∈ (wBlk h).view.set) :
    (wBlk h).view.write (Elt F) f ((wHBlk h).view.read (Elt F) (WF m c)) Finset.univ i = WF m c i := by
  obtain ⟨x, -, rfl⟩ := Finset.mem_map.mp hi
  exact View.write_emb_of_mem _ _ (Finset.mem_univ x)
/-- A copy of the whole of `x` leaves its contents. -/
theorem land_x (f g : S128x2048.Idx → Elt F .f32) :
    (xM : Memref sig .tc .vmem S128x2048 .f32).view.write (Elt F) f ((xH : Memref sig .tc .hbm S128x2048 .f32).view.read (Elt F) g) Finset.univ = g := by
  show (View.whole cc0_scratch0).write (Elt F) f ((View.whole main_arg0).read (Elt F) g) Finset.univ = g
  rw [View.read_whole]; exact View.write_whole_univ _ _ _
/-- A copy of the whole of the result leaves its contents. -/
theorem land_o (f g : S2048x128.Idx → Elt F .f32) :
    (oH : Memref sig .tc .hbm S2048x128 .f32).view.write (Elt F) f ((oM : Memref sig .tc .vmem S2048x128 .f32).view.read (Elt F) g) Finset.univ = g := by
  show (View.whole main_v1).write (Elt F) f ((View.whole cc0_scratch4).read (Elt F) g) Finset.univ = g
  rw [View.read_whole]; exact View.write_whole_univ _ _ _

end Cert.Exchange
end
-- ==== Proof.Schedule.lean ====
/-
The protocol of the exchange: who pays each semaphore's round, with how much, and what the payment hands over; what each
device owes from the start, and the order in which waits are safe.

A device opens row block `t` of its receive buffer to device `t` by signalling `t`'s ready semaphore; the signal hands
`t` that block. A device's column block `j` lands there and pays `j`'s receive semaphore, which hands the block back
filled; the same transfer pays the sender's send semaphore, which hands the column block back.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring of devices -/

/-- The device `d` places after `c`. -/
def fwd (c d : Dev nD) : Dev nD := ⟨(c.val + d.val) % 16, Nat.mod_lt _ (by decide)⟩
/-- The device `d` places before `c`. -/
def bwd (c d : Dev nD) : Dev nD := ⟨(c.val + (16 - d.val)) % 16, Nat.mod_lt _ (by decide)⟩

/-- The number one, as a distance. -/
abbrev dOne : Dev nD := ⟨1, by decide⟩
/-- The next device. -/
abbrev nxt (c : Dev nD) : Dev nD := fwd c dOne
/-- The device before. -/
abbrev prv (c : Dev nD) : Dev nD := bwd c dOne

/-- The distance back from `d` places after `c` to `c` is `d`. -/
theorem bwd_fwd (c d : Dev nD) : bwd (fwd c d) c = d := by
  have hc : c.val < 16 := c.isLt; have hd : d.val < 16 := d.isLt; apply Fin.ext; simp only [fwd, bwd]; omega
/-- As far after `c` as `t` is from it, there is `t`. -/
theorem fwd_bwd (c t : Dev nD) : fwd c (bwd t c) = t := by
  have hc : c.val < 16 := c.isLt; have ht : t.val < 16 := t.isLt; apply Fin.ext; simp only [fwd, bwd]; omega
/-- The distance back from `c` to `d` places before it is `d`. -/
theorem bwd_bwd (c d : Dev nD) : bwd c (bwd c d) = d := by
  have hc : c.val < 16 := c.isLt; have hd : d.val < 16 := d.isLt; apply Fin.ext; simp only [bwd]; omega
/-- `d` places back and `d` places on is where one was. -/
theorem fwd_bwd' (c d : Dev nD) : fwd (bwd c d) d = c := by
  have hc : c.val < 16 := c.isLt; have hd : d.val < 16 := d.isLt; apply Fin.ext; simp only [fwd, bwd]; omega
/-- `d` places on and `d` places back is where one was. -/
theorem bwd_fwd' (c d : Dev nD) : bwd (fwd c d) d = c := by
  have hc : c.val < 16 := c.isLt; have hd : d.val < 16 := d.isLt; apply Fin.ext; simp only [fwd, bwd]; omega
/-- Some places on is another device. -/
theorem fwd_ne (c d : Dev nD) (h : d.val ≠ 0) : fwd c d ≠ c := fun e => by
  have hc : c.val < 16 := c.isLt; have hd : d.val < 16 := d.isLt; have := congrArg Fin.val e; simp only [fwd] at this; omega
/-- Some places back is another device. -/
theorem bwd_ne (c d : Dev nD) (h : d.val ≠ 0) : bwd c d ≠ c := fun e => by
  have hc : c.val < 16 := c.isLt; have hd : d.val < 16 := d.isLt; have := congrArg Fin.val e; simp only [bwd] at this; omega
/-- No places back is the same device. -/
theorem bwd_zero (c : Dev nD) : bwd c ⟨0, by decide⟩ = c := by
  have hc : c.val < 16 := c.isLt; apply Fin.ext; simp only [bwd]; omega

/-- Counting from `c` upwards reaches every device once. -/
def fwdE (c : Dev nD) : Dev nD ≃ Dev nD := ⟨fwd c, fun t => bwd t c, bwd_fwd c, fwd_bwd c⟩
/-- Counting from `c` downwards reaches every device once. -/
def bwdE (c : Dev nD) : Dev nD ≃ Dev nD := ⟨bwd c, bwd c, bwd_bwd c, bwd_bwd c⟩
/-- Going to the next device is a rearrangement of the devices. -/
def ringE : Dev nD ≃ Dev nD := ⟨nxt, prv, fun c => bwd_fwd' c dOne, fun c => fwd_bwd' c dOne⟩

/-! ## The kinds of semaphore -/

/-- What a semaphore of the kernel is for. -/
inductive Kind where
  | bar | ready (j : Dev nD) | x | w (h : Fin 2) | o | send (j : Dev nD) | recv (j : Dev nD)

/-- The semaphore of the transfer of half `h` of `w`. -/
abbrev wS (h : Fin 2) : DmaSem sig := inS ⟨1 + h.val, by have := h.isLt; omega⟩

/-- What each semaphore is for. -/
def kindOf : SemLoc sig → Kind
  | .reg s => if h : s.val < 16 then .ready ⟨s.val, h⟩ else .bar
  | .dma s =>
    if s.val = 0 then .x
    else if h : s.val < 3 then .w ⟨s.val - 1, by omega⟩
    else if s.val = 3 then .o
    else if h : s.val < 20 then .send ⟨s.val - 4, by show _ < 16; omega⟩
    else .recv ⟨s.val - 20, by have : s.val < 36 := s.isLt; show _ < 16; omega⟩

/-- The barrier is for the barrier. -/
theorem kind_bar : kindOf (.reg barS) = .bar := rfl
/-- A ready semaphore is for ready signals. -/
theorem kind_ready (j : Dev nD) : kindOf (.reg (readyS j)) = .ready j := by
  have h : j.val < 16 := j.isLt
  exact dif_pos h
/-- The first local semaphore is for `x`. -/
theorem kind_x : kindOf (.dma (inS 0)) = .x := rfl
/-- The next two are for the halves of `w`. -/
theorem kind_w (h : Fin 2) : kindOf (.dma (wS h)) = .w h := by
  fin_cases h <;> rfl
/-- The fourth is for the result. -/
theorem kind_o : kindOf (.dma (inS 3)) = .o := rfl
/-- A send semaphore is for what is sent. -/
theorem kind_send (j : Dev nD) : kindOf (.dma (sendS j)) = .send j := by
  have h : j.val < 16 := j.isLt
  unfold kindOf
  dsimp only [sendS]
  rw [if_neg (by omega), dif_neg (by omega), if_neg (by omega), dif_pos (by omega)]
  congr 1; apply Fin.ext; show 4 + j.val - 4 = j.val; omega
/-- A receive semaphore is for what is received. -/
theorem kind_recv (j : Dev nD) : kindOf (.dma (recvS j)) = .recv j := by
  have h : j.val < 16 := j.isLt
  unfold kindOf
  dsimp only [recvS]
  rw [if_neg (by omega), dif_neg (by omega), if_neg (by omega), dif_neg (by omega)]
  congr 1; apply Fin.ext; show 20 + j.val - 20 = j.val; omega

/-! ## Ownership of the buffers -/

/-- Column block `j` of device `c`'s product buffer, holding what `f` holds there. -/
def yPts (c j : Dev nD) (f : Buf (Elt F) ((yBlk j).view.loc (c : Thread nD τ))) : sProp 𝕄 :=
  (yBlk j).view.loc (c : Thread nD τ) ↦[(yBlk j).view.set]{fullShare} f
/-- Row block `j` of device `c`'s receive buffer. -/
def rPts (c j : Dev nD) (f : Buf (Elt F) ((rBlk j).view.loc (c : Thread nD τ))) : sProp 𝕄 :=
  (rBlk j).view.loc (c : Thread nD τ) ↦[(rBlk j).view.set]{fullShare} f
/-- Half `h` of device `c`'s buffer for `w`. -/
def wPts (c : Dev nD) (h : Fin 2) (f : Buf (Elt F) ((wBlk h).view.loc (c : Thread nD τ))) : sProp 𝕄 :=
  (wBlk h).view.loc (c : Thread nD τ) ↦[(wBlk h).view.set]{fullShare} f
/-- Half `h` of device `c`'s `w`. -/
def whPts (c : Dev nD) (h : Fin 2) (f : Buf (Elt F) ((wHBlk h).view.loc (c : Thread nD τ))) : sProp 𝕄 :=
  (wHBlk h).view.loc (c : Thread nD τ) ↦[(wHBlk h).view.set]{fullShare} f
/-- A whole buffer of device `c`. -/
abbrev bufPts (c : Dev nD) (b : Ref sig .tc) (f : Buf (Elt F) ((c : Thread nD τ).loc b)) : sProp 𝕄 :=
  ((c : Thread nD τ).loc b) ↦{fullShare} f

omit [FloatOps F] in
/-- Such a block may be handed over by a payment. -/
instance yPts_storable (c j : Dev nD) (f) : BI.Storable (upEmb : UEmb _ 𝕄) (yPts (F := F) c j f) := by unfold yPts; infer_instance
omit [FloatOps F] in
/-- Such a block may be handed over by a payment. -/
instance rPts_storable (c j : Dev nD) (f) : BI.Storable (upEmb : UEmb _ 𝕄) (rPts (F := F) c j f) := by unfold rPts; infer_instance
omit [FloatOps F] in
/-- Such a half may be handed over by a payment. -/
instance wPts_storable (c : Dev nD) (h : Fin 2) (f) : BI.Storable (upEmb : UEmb _ 𝕄) (wPts (F := F) c h f) := by unfold wPts; infer_instance
omit [FloatOps F] in
/-- Such a half may be handed over by a payment. -/
instance whPts_storable (c : Dev nD) (h : Fin 2) (f) : BI.Storable (upEmb : UEmb _ 𝕄) (whPts (F := F) c h f) := by unfold whPts; infer_instance

/-! ## The schedule -/

/-- What device `p`'s signal to device `t`'s ready semaphore hands over: row block `t` of `p`'s receive buffer, whose
    receive semaphore `t` has not been used. -/
def readyPay (t p : Dev nD) : sProp 𝕄 := iprop((∃ f, rPts p t f) ∗ reached ER (recvCell p t) 0)

/-- What a device gets at the only round of a semaphore of each kind. -/
def kPay (c : Dev nD) : Kind → sProp 𝕄
  | .bar => iprop(emp)
  | .ready j => readyPay c j
  | .x => iprop(bufPts c cc0_scratch0 (XF m c) ∗ bufPts c main_arg0 (XF m c))
  | .w h => iprop(wPts c h (WF m c) ∗ whPts c h (WF m c))
  | .o => iprop(bufPts c main_v1 (OF m c) ∗ bufPts c cc0_scratch4 (OF m c))
  | .send j => yPts c j (YF m c)
  | .recv j => rPts c j (RF m c)

/-- The payments of the only round: two for the barrier, one for every other semaphore, except that a device sends
    nothing to itself. -/
def kDuties (c : Dev nD) : Kind → Finset Bool
  | .bar => Finset.univ
  | .ready j => if j = c then ∅ else {false}
  | .x => {false}
  | .w _ => {false}
  | .o => {false}
  | .send j => if j = c then ∅ else {false}
  | .recv j => if j = c then ∅ else {false}

/-- What one payment is worth. -/
def kAmt : Kind → ℕ
  | .bar => 1
  | .ready _ => 1
  | .x => Nx
  | .w _ => Nw
  | .o => No
  | .send _ => Nb
  | .recv _ => Nb

/-- Every payment is worth something. -/
theorem kAmt_pos (k : Kind) : 0 < kAmt k := by
  cases k
  · exact Nat.one_pos
  · exact Nat.one_pos
  · exact Nx_pos
  · exact Nw_pos
  · exact No_pos
  · exact Nb_pos
  · exact Nb_pos

/-- The protocol: every semaphore has one round, round 0. -/
def exRd : Rounds.Schedule (GSem nD τ sig) Bool 𝕄 where
  duties g r := if r = 0 ∧ g.1.2 = .tc then kDuties g.1.1 (kindOf g.2) else ∅
  unitless _ := False
  amount g _ _ := kAmt (kindOf g.2)
  payload g _ _ := kPay m g.1.1 (kindOf g.2)
  amount_pos g _ _ _ := kAmt_pos _

/-- What a semaphore hands over may be handed over. -/
instance kPay_storable (c : Dev nD) (k : Kind) : BI.Storable (upEmb : UEmb _ 𝕄) (kPay m c k) := by
  cases k <;> simp only [kPay, readyPay] <;> infer_instance

/-- So for every payment of the protocol. -/
instance exRd_payload_storable (g : GSem nD τ sig) (r : ℕ) (d : Bool) :
    BI.Storable (upEmb : UEmb _ 𝕄) ((exRd (F := F) m).payload g r d) := by
  show BI.Storable upEmb (kPay m g.1.1 (kindOf g.2))
  infer_instance

section Sched
variable (c : Dev nD) (s : SemLoc sig)

/-- The payments of round 0. -/
theorem duties_eq : (exRd (F := F) m).duties (kcell (c, s)) 0 = kDuties c (kindOf s) := by
  dsimp only [exRd]; exact if_pos ⟨rfl, rfl⟩
/-- There are no payments after round 0. -/
theorem duties_later (g : GSem nD τ sig) : ∀ r, 1 ≤ r → (exRd (F := F) m).duties g r = ∅ :=
  fun r hr => by dsimp only [exRd]; exact if_neg fun h => by omega
/-- A semaphore that nobody pays has no payments in any round. -/
theorem duties_none (h : kDuties c (kindOf s) = ∅) : ∀ r, 0 ≤ r → (exRd (F := F) m).duties (kcell (c, s)) r = ∅ := by
  intro r _
  show (if _ then kDuties c (kindOf s) else ∅) = ∅
  rw [h]; exact ite_self _
/-- What a payment is worth. -/
theorem amount_eq (d : Bool) : (exRd (F := F) m).amount (kcell (c, s)) 0 d = kAmt (kindOf s) := rfl
/-- What a payment hands over. -/
theorem payload_eq (d : Bool) : (exRd (F := F) m).payload (kcell (c, s)) 0 d = kPay m c (kindOf s) := rfl

/-- The credit a wait on a semaphore with one payment expects. -/
theorem expect_one (h : kDuties c (kindOf s) = {false}) : (exRd (F := F) m).expect (kcell (c, s)) 0 = kAmt (kindOf s) := by
  unfold Schedule.expect Schedule.amountOf
  rw [duties_eq, h, Finset.sum_singleton, amount_eq]
/-- A wait on the barrier expects two signals. -/
theorem expect_bar : (exRd (F := F) m).expect (barCell c) 0 = 2 := by
  unfold Schedule.expect Schedule.amountOf
  rw [duties_eq]; rfl
/-- What such a wait hands over. -/
theorem rest_one (h : kDuties c (kindOf s) = {false}) :
    bigSep ((exRd (F := F) m).duties (kcell (c, s)) 0 \ ∅) (fun d => (exRd (F := F) m).payload (kcell (c, s)) 0 d) = kPay m c (kindOf s) := by
  rw [Finset.sdiff_empty, duties_eq, h, bigSep_singleton, payload_eq]

end Sched

/-! ## What each device owes; the levels -/

/-- What device `c` still owes the receive semaphores, from device `n` on. -/
def recvRem (c : Dev nD) (n : ℕ) : CellTallies nD τ sig Unit :=
  ∑ j ∈ Finset.univ.filter (fun j : Dev nD => n ≤ j.val ∧ j ≠ c), tallyAt (recvCell j c) () Nb
/-- What device `c` still owes the ready semaphores, from the `n`-th device after it on. -/
def sigRem (c : Dev nD) (n : ℕ) : CellTallies nD τ sig Unit :=
  ∑ d ∈ Finset.univ.filter (fun d : Dev nD => n ≤ d.val), tallyAt (readyCell (fwd c d) c) () 1
/-- What it owes the two neighbours' barriers on top of the receive semaphores. -/
def barRem (c : Dev nD) : CellTallies nD τ sig Unit := recvRem c 0 + tallyAt (barCell (prv c)) () 1
/-- What it owes both neighbours' barriers and the receive semaphores. -/
def barRem' (c : Dev nD) : CellTallies nD τ sig Unit := barRem c + tallyAt (barCell (nxt c)) () 1
/-- What a device owes at first. -/
def O₀ (c : Dev nD) : CellTallies nD τ sig Unit := barRem' c + sigRem c 1

/-- Those from `k` on are `k` and those after it. -/
theorem filter_from (k : Dev nD) (p : Dev nD → Prop) [DecidablePred p] (hp : p k) :
    Finset.univ.filter (fun j : Dev nD => k.val ≤ j.val ∧ p j)
      = insert k (Finset.univ.filter (fun j : Dev nD => k.val + 1 ≤ j.val ∧ p j)) := by
  ext j
  simp only [Finset.mem_filter, Finset.mem_univ, true_and, Finset.mem_insert]
  constructor
  · rintro ⟨h, hj⟩
    by_cases e : j = k
    · exact .inl e
    · exact .inr ⟨by have : j.val ≠ k.val := fun h => e (Fin.ext h); omega, hj⟩
  · rintro (rfl | ⟨h, hj⟩)
    · exact ⟨le_refl _, hp⟩
    · exact ⟨by omega, hj⟩

/-- What is owed from device `k` on: its block, and what is owed after it. -/
theorem recvRem_step (c k : Dev nD) (h : k ≠ c) : recvRem c k.val = recvRem c (k.val + 1) + tallyAt (recvCell k c) () Nb := by
  unfold recvRem
  rw [filter_from k (fun j => j ≠ c) h, Finset.sum_insert (by simp), add_comm]
/-- Nothing is owed to the device itself. -/
theorem recvRem_self (c : Dev nD) : recvRem c c.val = recvRem c (c.val + 1) := by
  unfold recvRem
  congr 1
  ext j
  simp only [Finset.mem_filter, Finset.mem_univ, true_and]
  constructor
  · rintro ⟨h, hj⟩
    exact ⟨by have : j.val ≠ c.val := fun h => hj (Fin.ext h); omega, hj⟩
  · rintro ⟨h, hj⟩
    exact ⟨by omega, hj⟩
/-- After the last device nothing is owed. -/
theorem recvRem_end (c : Dev nD) : recvRem c 16 = 0 := by
  unfold recvRem
  refine Finset.sum_eq_zero fun j hj => ?_
  have h := (Finset.mem_filter.mp hj).2.1
  have : j.val < 16 := j.isLt
  omega
/-- The signals owed from the `k`-th device on: one to it, and those after it. -/
theorem sigRem_step (c k : Dev nD) : sigRem c k.val = sigRem c (k.val + 1) + tallyAt (readyCell (fwd c k) c) () 1 := by
  unfold sigRem
  have h := filter_from k (fun _ => True) trivial
  simp only [and_true] at h
  rw [h, Finset.sum_insert (by simp), add_comm]
/-- After the last device no signal is owed. -/
theorem sigRem_end (c : Dev nD) : sigRem c 16 = 0 := by
  unfold sigRem
  refine Finset.sum_eq_zero fun j hj => ?_
  have h := (Finset.mem_filter.mp hj).2
  have : j.val < 16 := j.isLt
  omega

/-- Where a sum of debts owes something, one of them does. -/
theorem sum_tally_pos {ι : Type} {s : Finset ι} {f : ι → CellTallies nD τ sig Unit} {g : GSem nD τ sig} {u : Unit}
    (h : 0 < (∑ i ∈ s, f i) g u) : ∃ i ∈ s, 0 < f i g u := by
  by_contra hn
  push Not at hn
  rw [Finset.sum_apply, Finsupp.finset_sum_apply, Finset.sum_eq_zero fun i hi => Nat.le_zero.mp (hn i hi)] at h
  exact Nat.lt_irrefl 0 h
/-- A debt to one semaphore owes nothing to another. -/
theorem tallyAt_pos {g g' : GSem nD τ sig} {k : ℕ} {u : Unit} (h : 0 < tallyAt g () k g' u) : g' = g := by
  rw [tallyAt_apply] at h
  by_contra hn
  rw [if_neg fun h' => hn h'.1] at h
  exact Nat.lt_irrefl 0 h

/-- Every semaphore of a device's main core has one level. -/
def L (g : GSem nD τ sig) : Finset Unit := if g.1.2 = .tc then {()} else ∅
/-- The order of the waits: the barrier, then the ready semaphores, then the receive semaphores; nothing is owed to the
    semaphores of a device's own transfers. -/
def kLv : Kind → ℕ
  | .bar => 1
  | .ready _ => 2
  | .recv _ => 3
  | _ => 0
/-- The level of each semaphore. -/
def lv (g : GSem nD τ sig) (_ : Unit) : ℕ := kLv (kindOf g.2)

/-- Other cores' semaphores have none. -/
theorem L_of_ne (g : GSem nD τ sig) (h : g.1.2 ≠ .tc) : L g = ∅ := if_neg h
/-- The main core's have one. -/
theorem L_tc (p : Dev nD × SemLoc sig) : L (kcell p) = {()} := if_pos rfl

/-- The debts to receive semaphores are to the receive semaphores for this device. -/
theorem recvRem_pos {c : Dev nD} {n : ℕ} {g : GSem nD τ sig} {u : Unit} (h : 0 < recvRem c n g u) : ∃ j, g = recvCell j c := by
  obtain ⟨j, -, hj⟩ := sum_tally_pos h
  exact ⟨j, tallyAt_pos hj⟩
/-- Whatever a device owes is above level zero. -/
theorem O₀_pos {c : Dev nD} {g : GSem nD τ sig} {u : Unit} (h : 0 < O₀ c g u) : ∃ p, g = kcell p ∧ 0 < lv g u := by
  unfold O₀ barRem' barRem at h
  simp only [Pi.add_apply, Finsupp.add_apply] at h
  have h' : 0 < recvRem c 0 g u ∨ 0 < tallyAt (barCell (prv c)) () 1 g u ∨ 0 < tallyAt (barCell (nxt c)) () 1 g u ∨ 0 < sigRem c 1 g u := by
    omega
  rcases h' with h | h | h | h
  · obtain ⟨j, rfl⟩ := recvRem_pos h
    exact ⟨_, rfl, by unfold lv; rw [kind_recv]; exact Nat.zero_lt_succ 2⟩
  · rw [tallyAt_pos h]; exact ⟨_, rfl, by unfold lv; rw [kind_bar]; decide⟩
  · rw [tallyAt_pos h]; exact ⟨_, rfl, by unfold lv; rw [kind_bar]; decide⟩
  · obtain ⟨j, -, hj⟩ := sum_tally_pos h
    rw [tallyAt_pos hj]; exact ⟨_, rfl, by unfold lv; rw [kind_ready]; exact Nat.zero_lt_succ 1⟩

/-- The level of every semaphore, as a resource. -/
def levels : sProp 𝕄 := levAts L lv
/-- The levels may be copied. -/
instance levels_persistent : BI.Persistent (levels (F := F)) := by unfold levels; infer_instance

/-- Nothing a device owes at the start is owed to a semaphore of a local transfer, so those may be waited for. -/
theorem mayWait_low (c : Dev nD) (s : SemLoc sig) (hs : kLv (kindOf s) = 0) :
    (levels : sProp 𝕄) ⊢ MayWait (c : Thread nD τ) s () (O₀ c) := by
  unfold levels; exact MayOwe.of_cut (L := L) (lev := lv) 0 (fun p hp => by rw [Finset.mem_singleton.mp hp]; exact (L_tc (c, s)).symm ▸ Finset.mem_singleton_self _)
    (fun g u hg => by obtain ⟨p, rfl, -⟩ := O₀_pos hg; rw [L_tc]; exact Finset.mem_singleton_self _)
    (fun p hp => by rw [Finset.mem_singleton.mp hp]; exact le_of_eq hs)
    (fun g u hg => by obtain ⟨p, -, h⟩ := O₀_pos hg; exact h)

/-- A device that owes receive semaphores only may wait for any semaphore but those. -/
theorem mayWait_recv (c : Dev nD) (n : ℕ) (s : SemLoc sig) (hs : kLv (kindOf s) ≤ 2) :
    (levels : sProp 𝕄) ⊢ MayWait (c : Thread nD τ) s () (recvRem c n) := by
  unfold levels; exact MayOwe.of_cut (L := L) (lev := lv) 2 (fun p hp => by rw [Finset.mem_singleton.mp hp]; exact (L_tc (c, s)).symm ▸ Finset.mem_singleton_self _)
    (fun g u hg => by obtain ⟨j, rfl⟩ := recvRem_pos hg; rw [L_tc]; exact Finset.mem_singleton_self _)
    (fun p hp => by rw [Finset.mem_singleton.mp hp]; exact hs)
    (fun g u hg => by obtain ⟨j, rfl⟩ := recvRem_pos hg; unfold lv; rw [kind_recv]; exact Nat.lt_succ_self 2)

/-! ### The schedule at each semaphore -/

/-- Another device's ready semaphore is paid once. -/
theorem kd_ready (c j : Dev nD) (h : j ≠ c) : kDuties c (kindOf (.reg (readyS j))) = {false} := by rw [kind_ready]; exact if_neg h
/-- The send semaphore for another device is paid once. -/
theorem kd_send (c j : Dev nD) (h : j ≠ c) : kDuties c (kindOf (.dma (sendS j))) = {false} := by rw [kind_send]; exact if_neg h
/-- The receive semaphore for another device is paid once. -/
theorem kd_recv (c j : Dev nD) (h : j ≠ c) : kDuties c (kindOf (.dma (recvS j))) = {false} := by rw [kind_recv]; exact if_neg h
/-- The semaphore for `x` is paid once. -/
theorem kd_x (c : Dev nD) : kDuties c (kindOf (.dma (inS 0))) = {false} := rfl
/-- The semaphores for the halves of `w` are paid once. -/
theorem kd_w (c : Dev nD) (h : Fin 2) : kDuties c (kindOf (.dma (wS h))) = {false} := by rw [kind_w]; rfl
/-- The semaphore for the result is paid once. -/
theorem kd_o (c : Dev nD) : kDuties c (kindOf (.dma (inS 3))) = {false} := rfl
/-- Nobody pays a device's ready semaphore for itself. -/
theorem kd_ready_self (c : Dev nD) : kDuties c (kindOf (.reg (readyS c))) = ∅ := by rw [kind_ready]; exact if_pos rfl
/-- Nobody pays a device's send semaphore for itself. -/
theorem kd_send_self (c : Dev nD) : kDuties c (kindOf (.dma (sendS c))) = ∅ := by rw [kind_send]; exact if_pos rfl
/-- Nobody pays a device's receive semaphore for itself. -/
theorem kd_recv_self (c : Dev nD) : kDuties c (kindOf (.dma (recvS c))) = ∅ := by rw [kind_recv]; exact if_pos rfl

/-- A ready signal is worth one. -/
theorem ka_ready (j : Dev nD) : kAmt (kindOf (.reg (readyS j))) = 1 := by rw [kind_ready]; rfl
/-- What a transfer pays where it left. -/
theorem ka_send (j : Dev nD) : kAmt (kindOf (.dma (sendS j))) = Nb := by rw [kind_send]; rfl
/-- What a transfer pays where it landed. -/
theorem ka_recv (j : Dev nD) : kAmt (kindOf (.dma (recvS j))) = Nb := by rw [kind_recv]; rfl
/-- What the copy of `x` pays. -/
theorem ka_x : kAmt (kindOf (.dma (inS 0))) = Nx := rfl
/-- What the copy of a half of `w` pays. -/
theorem ka_w (h : Fin 2) : kAmt (kindOf (.dma (wS h))) = Nw := by rw [kind_w]; rfl
/-- What the copy of the result pays. -/
theorem ka_o : kAmt (kindOf (.dma (inS 3))) = No := rfl

/-- A ready signal hands over the right to fill a row block. -/
theorem kp_ready (c j : Dev nD) : kPay m c (kindOf (.reg (readyS j))) = readyPay c j := by rw [kind_ready]; rfl
/-- A transfer gives the sender its column block back. -/
theorem kp_send (c j : Dev nD) : kPay m c (kindOf (.dma (sendS j))) = yPts c j (YF m c) := by rw [kind_send]; rfl
/-- A transfer gives the receiver the row block, filled. -/
theorem kp_recv (c j : Dev nD) : kPay m c (kindOf (.dma (recvS j))) = rPts c j (RF m c) := by rw [kind_recv]; rfl
/-- The copy of `x` gives both buffers back, the scratch filled. -/
theorem kp_x (c : Dev nD) : kPay m c (kindOf (.dma (inS 0))) = iprop(bufPts c cc0_scratch0 (XF m c) ∗ bufPts c main_arg0 (XF m c)) := rfl
/-- The copy of a half of `w` gives both halves back, the scratch filled. -/
theorem kp_w (c : Dev nD) (h : Fin 2) : kPay m c (kindOf (.dma (wS h))) = iprop(wPts c h (WF m c) ∗ whPts c h (WF m c)) := by
  rw [kind_w]; rfl
/-- The copy of the result gives both buffers back, the result filled. -/
theorem kp_o (c : Dev nD) : kPay m c (kindOf (.dma (inS 3))) = iprop(bufPts c main_v1 (OF m c) ∗ bufPts c cc0_scratch4 (OF m c)) := rfl

/-- The ready semaphores are below the receive semaphores. -/
theorem kl_ready (j : Dev nD) : kLv (kindOf (.reg (readyS j))) ≤ 2 := by rw [kind_ready]; exact le_refl 2
/-- The semaphores of the halves of `w` are at the bottom. -/
theorem kl_w (h : Fin 2) : kLv (kindOf (.dma (wS h))) = 0 := by rw [kind_w]; rfl

/-- The only payment of a semaphore, with what it is worth and what it hands over. -/
theorem duty_mem (c : Dev nD) (s : SemLoc sig) (h : kDuties c (kindOf s) = {false}) : false ∈ (exRd (F := F) m).duties (kcell (c, s)) 0 := by
  rw [duties_eq, h]; exact Finset.mem_singleton_self _
/-- The barrier takes both payments. -/
theorem duty_bar (c : Dev nD) (d : Bool) : d ∈ (exRd (F := F) m).duties (barCell c) 0 := by
  rw [duties_eq]; exact Finset.mem_univ _

/-! ## Every semaphore of a device -/

/-- The semaphores by purpose: the barrier, the ready array, the local transfers, the send array, the receive array. -/
def semE : (Unit ⊕ Dev nD ⊕ Fin 4 ⊕ Dev nD ⊕ Dev nD) → SemLoc sig
  | .inl _ => .reg barS
  | .inr (.inl j) => .reg (readyS j)
  | .inr (.inr (.inl i)) => .dma (inS i)
  | .inr (.inr (.inr (.inl j))) => .dma (sendS j)
  | .inr (.inr (.inr (.inr j))) => .dma (recvS j)

/-- Every semaphore is in the list. -/
theorem semE_surj : ∀ s : SemLoc sig, ∃ a, semE a = s := by decide +kernel

/-- Every semaphore is in the list once. -/
theorem semE_bij : Function.Bijective semE := by
  refine (Fintype.bijective_iff_surjective_and_card _).mpr ⟨semE_surj, ?_⟩
  decide +kernel

/-- A resource for every semaphore is one for each array. -/
theorem sems_split (Φ : SemLoc sig → sProp 𝕄) :
    bigSep Finset.univ Φ = iprop(Φ (.reg barS) ∗ bigSep Finset.univ (fun j : Dev nD => Φ (.reg (readyS j)))
      ∗ bigSep Finset.univ (fun i : Fin 4 => Φ (.dma (inS i))) ∗ bigSep Finset.univ (fun j : Dev nD => Φ (.dma (sendS j)))
      ∗ bigSep Finset.univ (fun j : Dev nD => Φ (.dma (recvS j)))) := by
  have h := bigSep_univ_equiv (Equiv.ofBijective semE semE_bij) Φ
  rw [h, bigSep_univ_sum, bigSep_univ_sum, bigSep_univ_sum, bigSep_univ_sum]
  rw [show (Finset.univ : Finset Unit) = {()} from rfl, bigSep_singleton]
  rfl

end Cert.Exchange
end
-- ==== Proof.Steps.lean ====
/-
The steps of one device: what it holds between two effects of a phase, and one lemma for each kind of effect — a signal, a
wait, a local copy, the own-block-or-send pair of statements, a receive, a drain.
-/
module

public import proofs.«01_k».proof.Proof.Schedule

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

/-- The run of a program on device `c`'s core. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Sweeping through the devices -/

/-- The resources `B` of the devices before `n`, `A` of the others. -/
def sweep (A B : Dev nD → sProp 𝕄) (n : ℕ) : sProp 𝕄 :=
  bigSep Finset.univ fun d : Dev nD => if d.val < n then B d else A d
/-- The same without device `k`. -/
def sweepRest (A B : Dev nD → sProp 𝕄) (k : Dev nD) : sProp 𝕄 :=
  bigSep (Finset.univ.erase k) fun d : Dev nD => if d.val < k.val then B d else A d

/-- The next device's share before its step. -/
theorem sweep_take (A B : Dev nD → sProp 𝕄) (k : Dev nD) : sweep A B k.val = iprop(A k ∗ sweepRest A B k) := by
  unfold sweep sweepRest
  rw [bigSep_univ_split k, if_neg (Nat.lt_irrefl _)]; rfl
/-- The same device's share after its step. -/
theorem sweep_put (A B : Dev nD → sProp 𝕄) (k : Dev nD) : sweep A B (k.val + 1) = iprop(B k ∗ sweepRest A B k) := by
  unfold sweep sweepRest
  rw [bigSep_univ_split k, if_pos (Nat.lt_succ_self _)]
  refine congrArg (fun X => iprop(B k ∗ X)) (bigSep_congr fun d hd => ?_)
  have hne : d.val ≠ k.val := fun h => (Finset.mem_erase.mp hd).1 (Fin.ext h)
  by_cases h : d.val < k.val
  · rw [if_pos h, if_pos (by omega)]
  · rw [if_neg h, if_neg (by omega)]
/-- Before the first step every device's share is as at first. -/
theorem sweep_zero (A B : Dev nD → sProp 𝕄) : sweep A B 0 = bigSep Finset.univ A := by
  unfold sweep; exact bigSep_congr fun d _ => if_neg (Nat.not_lt_zero _)
/-- After the last step every device's share is as at last. -/
theorem sweep_end (A B : Dev nD → sProp 𝕄) : sweep A B 16 = bigSep Finset.univ B := by
  unfold sweep; exact bigSep_congr fun d _ => if_pos d.isLt
/-- A device already passed can be looked at. -/
theorem sweep_look (A B : Dev nD → sProp 𝕄) (k : Dev nD) (n : ℕ) (h : k.val < n) :
    sweep A B n ⊢ iprop(B k ∗ (B k -∗ sweep A B n)) := by
  have e : sweep A B n = iprop(B k ∗ bigSep (Finset.univ.erase k) fun d : Dev nD => if d.val < n then B d else A d) := by
    unfold sweep
    rw [bigSep_univ_split k, if_pos h]; rfl
  rw [e]
  iintro ⟨HB, HR⟩
  isplitl [HB]; · iexact HB
  iintro HB
  isplitl [HB] <;> iassumption

/-! ## What every device knows -/

/-- The protocol of every semaphore of every device, and that each is at its first round at least. -/
def records : sProp 𝕄 :=
  iprop(bigSep Finset.univ (fun p : Dev nD × SemLoc sig => cellInv ER (exRd m) (K p) (kcell p))
    ∗ bigSep Finset.univ (fun p : Dev nD × SemLoc sig => reached ER (kcell p) 0) ∗ levels)

/-- The records may be copied. -/
instance records_persistent : BI.Persistent (records m K) := by unfold records; infer_instance

/-- They hold the protocol of every semaphore. -/
theorem records_inv (p : Dev nD × SemLoc sig) : records m K ⊢ cellInv ER (exRd m) (K p) (kcell p) := by
  unfold records
  iintro ⟨H, -⟩
  have h : bigSep Finset.univ (fun p : Dev nD × SemLoc sig => (cellInv ER (exRd m) (K p) (kcell p) : sProp 𝕄)) ⊢ cellInv ER (exRd m) (K p) (kcell p) :=
    bigSep_elim (Finset.mem_univ p)
  iapply h; iexact H
/-- They say that every semaphore has reached round 0. -/
theorem records_reached (p : Dev nD × SemLoc sig) : records m K ⊢ reached ER (kcell p) 0 := by
  unfold records
  iintro ⟨-, H, -⟩
  have h : bigSep Finset.univ (fun p : Dev nD × SemLoc sig => (reached ER (kcell p) 0 : sProp 𝕄)) ⊢ reached ER (kcell p) 0 :=
    bigSep_elim (Finset.mem_univ p)
  iapply h; iexact H
/-- They hold the levels. -/
theorem records_lev : records m K ⊢ levels := by
  unfold records
  iintro ⟨-, -, H⟩
  iexact H

/-- A semaphore at the bottom may be waited for while all is owed that a device owes at first. -/
theorem may_low (c : Dev nD) (s : SemLoc sig) (hs : kLv (kindOf s) = 0) : records m K ⊢ MayWait (c : Thread nD τ) s () (O₀ c) :=
  (records_lev m K).trans (mayWait_low c s hs)
/-- The barrier and the ready semaphores may be waited for while only blocks are owed. -/
theorem may_recv (c : Dev nD) (n : ℕ) (s : SemLoc sig) (hs : kLv (kindOf s) ≤ 2) :
    records m K ⊢ MayWait (c : Thread nD τ) s () (recvRem c n) :=
  (records_lev m K).trans (mayWait_recv c n s hs)

/-- What a device still owes, whatever it has waited for. -/
def owing (c : Dev nD) (O : CellTallies nD τ sig Unit) : sProp 𝕄 := iprop(∃ W, owes (c : Thread nD τ) O W)

/-- A wait for the only payment of a semaphore hands over what that payment hands over. -/
theorem step_wait (c : Dev nD) (s : SemLoc sig) {w : TpuEff nD τ sig (Elt F) Λ₀ .tc PUnit} {k' : ℕ} {α : Type} {Q : α → sProp 𝕄}
    {k : PUnit → Prog (TpuEff nD τ sig (Elt F) Λ₀ .tc) α}
    (hw : ∀ K' : PUnit → sProp 𝕄, wpE (defs₀ (F := F)) 𝒱₀ (c : Thread nD τ) none Set.univ w K' = waitSpec (c : Thread nD τ) Set.univ s k' K')
    (hk : k' = kAmt (kindOf s)) (hd : kDuties c (kindOf s) = {false}) (O : CellTallies nD τ sig Unit) :
    iprop(records m K ∗ cred (tallyAt (kcell (c, s)) () (kAmt (kindOf s))) ∗ owing c O ∗ MayWait (c : Thread nD τ) s () O
        ∗ atPos ER (kcell (c, s)) 0 ∅ 0)
      ⊢ iprop(((owing c O ∗ atPos ER (kcell (c, s)) 1 ∅ 0 ∗ kPay m c (kindOf s)) -∗ run c (k ⟨⟩) Q) -∗ run c (.op w k) Q) := by
  subst hk
  unfold owing
  iintro ⟨#HR, HC, ⟨%W, HO⟩, HM, HA⟩ Hk
  ihave #HI := (records_inv m K (c, s)) $$ HR
  iapply (Rounds.wp_wait_rest_token 𝒱₀ ER (exRd m) (c : Thread nD τ) none (κ := K (c, s)) hw (Set.mem_univ _) () (O := O) (W := W)
      (R := 0) (m := 0) (T := ∅) (by rw [Nat.zero_add, expect_one m c s hd])) $$ [HC HO HM HA]
  · isplitr; · iexact HI
    isplitl [HC]; · iexact HC
    isplitl [HO]; · iexact HO
    isplitl [HM] <;> iassumption
  iintro ⟨HO, HA, -, HP⟩
  iapply Hk
  isplitl [HO]; · iexists _; iexact HO
  isplitl [HA]; · iexact HA
  iapply (Entails.of_eq (rest_one m c s hd)); iexact HP

/-! ## Signals -/

/-- For the signal to the `d`-th device after `c`: the right to pay it, and the row block it opens. -/
def sigA (c d : Dev nD) : sProp 𝕄 :=
  if d.val = 0 then iprop(emp) else iprop(dutyTok ER (readyCell (fwd c d) c) 0 false ∗ ∃ f, rPts c (fwd c d) f)
/-- The ready signals before the `n`-th sent, the others to come. -/
def SigSt (c : Dev nD) (n : ℕ) : sProp 𝕄 := iprop(owing c (barRem' c + sigRem c n) ∗ sweep (sigA (F := F) c) (fun _ => iprop(emp)) n)

/-- What a signal to another device takes. -/
theorem sigA_pos (c d : Dev nD) (h : d.val ≠ 0) :
    sigA (F := F) c d = iprop(dutyTok ER (readyCell (fwd c d) c) 0 false ∗ ∃ f, rPts c (fwd c d) f) := by
  unfold sigA; exact if_neg h

/-- The signal to the `d`-th device after `c`. -/
theorem step_signal (c d : Dev nD) (hd : d.val ≠ 0) {n : Dev nD} (hn : n = fwd c d) {sm : Sem sig} (hs : sm = readyS c) {w : Int} (hw : w = ((1 : ℕ) : Int))
    {α : Type} {Q : α → sProp 𝕄} {k : PUnit → Prog (TpuEff nD τ sig (Elt F) Λ₀ .tc) α} :
    iprop(records m K ∗ SigSt c d.val)
      ⊢ iprop((SigSt c (d.val + 1) -∗ run c (k ⟨⟩) Q) -∗ run c (.op (.semSignal (n : Thread nD τ) sm w) k) Q) := by
  subst hn hs hw
  unfold SigSt owing
  rw [sweep_take, sweep_put]
  iintro ⟨#HR, ⟨%W, HO⟩, HA, Hrest⟩ Hk
  ihave HA := (Entails.of_eq (sigA_pos c d hd)) $$ HA
  icases HA with ⟨HT, HP⟩
  ihave #HI := (records_inv m K (fwd c d, .reg (readyS c))) $$ HR
  ihave #HV := (records_reached m K (fwd c d, .reg (readyS c))) $$ HR
  ihave #HV' := (records_reached m K (c, .dma (recvS (fwd c d)))) $$ HR
  iapply (Rounds.wp_signal 𝒱₀ ER (exRd m) (c : Thread nD τ) none (dst := (fwd c d : Thread nD τ)) (κ := K (fwd c d, .reg (readyS c)))
      (d := false) (duty_mem m (fwd c d) (.reg (readyS c)) (kd_ready _ _ (fwd_ne c d hd).symm))
      ((amount_eq m (fwd c d) (.reg (readyS c)) false).trans (ka_ready c)) ()
      (O₀ := barRem' c + sigRem c d.val) (barRem' c + sigRem c (d.val + 1)) (by rw [sigRem_step, add_assoc])) $$ [HO HT HP]
  · isplitr; · iexact HI
    isplitl [HO]; · iexact HO
    isplitl [HT]; · iexact HT
    isplitl [HP]
    · iapply (Entails.of_eq ((payload_eq m (fwd c d) (.reg (readyS c)) false).trans (kp_ready m _ _)).symm)
      unfold readyPay
      isplitl [HP]; · iexact HP
      iexact HV'
    · iexact HV
  iintro HO
  iapply Hk
  isplitl [HO]; · iexists _; iexact HO
  isplitr; · iempintro
  iexact Hrest

/-! ## Sends -/

/-- Column blocks `n`, …, `hi - 1` of the product, computed and not yet sent. -/
def ycols (c : Dev nD) (n hi : ℕ) : sProp 𝕄 :=
  bigSep (Finset.univ.filter fun j : Dev nD => n ≤ j.val ∧ j.val < hi) fun j => yPts c j (YF m c)
/-- The next column block cut off from those not yet sent. -/
theorem ycols_take (c j : Dev nD) (hi : ℕ) (h : j.val < hi) : ycols m c j.val hi = iprop(yPts c j (YF m c) ∗ ycols m c (j.val + 1) hi) := by
  unfold ycols
  rw [filter_from j (fun i => i.val < hi) h, bigSep_insert (by simp)]; rfl

/-- The own row block of the receive buffer: filled once the sweep has passed `c`. -/
def ownSt (c : Dev nD) (n : ℕ) : sProp 𝕄 := iprop(∃ f, ⌜c.val < n → f = RF m c⌝ ∗ rPts c c f)

/-- Before block `j`: the credit and position of the wait for `j`'s readiness, and the rights to pay the two semaphores of the
    transfer. -/
def sndA (c j : Dev nD) : sProp 𝕄 :=
  iprop(atPos ER (readyCell c j) 0 ∅ 0 ∗
    if j = c then iprop(emp)
    else iprop(cred (tallyAt (readyCell c j) () 1) ∗ dutyTok ER (sendCell c j) 0 false ∗ dutyTok ER (recvCell j c) 0 false))
/-- How many rounds a semaphore indexed by `j` of device `c` goes through. -/
def rnd (c j : Dev nD) : ℕ := if j = c then 0 else 1
/-- After it: the credit to wait for the transfer having left, or the block itself if it stays. -/
def sndB (c j : Dev nD) : sProp 𝕄 :=
  iprop(atPos ER (readyCell c j) (rnd c j) ∅ 0 ∗
    if j = c then yPts c j (YF m c) else cred (tallyAt (sendCell c j) () Nb))

/-- The blocks before device `n` sent or kept, the others to come. -/
def SendSt (c : Dev nD) (n : ℕ) : sProp 𝕄 :=
  iprop(owing c (recvRem c n) ∗ sweep (sndA (F := F) c) (sndB m c) n ∗ ownSt m c n)

/-- What a transfer to another device takes. -/
theorem sndA_ne (c j : Dev nD) (h : j ≠ c) : sndA (F := F) c j = iprop(atPos ER (readyCell c j) 0 ∅ 0 ∗ cred (tallyAt (readyCell c j) () 1)
    ∗ dutyTok ER (sendCell c j) 0 false ∗ dutyTok ER (recvCell j c) 0 false) := by
  unfold sndA; rw [if_neg h]
/-- For the device itself there is no transfer. -/
theorem sndA_self (c : Dev nD) : sndA (F := F) c c = iprop(atPos ER (readyCell c c) 0 ∅ 0 ∗ emp) := by
  unfold sndA; rw [if_pos rfl]
/-- What a transfer to another device leaves. -/
theorem sndB_ne (c j : Dev nD) (h : j ≠ c) : sndB m c j = iprop(atPos ER (readyCell c j) 1 ∅ 0 ∗ cred (tallyAt (sendCell c j) () Nb)) := by
  unfold sndB rnd; rw [if_neg h, if_neg h]
/-- The device's own block stays. -/
theorem sndB_self (c : Dev nD) : sndB m c c = iprop(atPos ER (readyCell c c) 0 ∅ 0 ∗ yPts c c (YF m c)) := by
  unfold sndB rnd; rw [if_pos rfl, if_pos rfl]

/-- The transfer of block `j` to device `j`, once that has opened the row block for it. -/
theorem step_send (c j : Dev nD) (hj : j ≠ c) {n : Dev nD} (hn : n = j) {off : Fin 2 → Nat} (ho : off = ![128 * c.val, 0])
    {inb : ∀ a, off a + S128x128.size a ≤ S2048x128.size a} {offY : Fin 2 → Nat} (hoY : offY = ![0, 128 * j.val])
    {inbY' : ∀ a, offY a + S128x128.size a ≤ S128x2048.size a}
    {st : ∀ a, (Rect.unit (s := S2048x128) off S128x128.size inb).stride a = 1} {stY : ∀ a, (Rect.unit (s := S128x2048) offY S128x128.size inbY').stride a = 1}
    {sS sR : DmaSem sig} (hS : sS = sendS j) (hR : sR = recvS c)
    {hsc : (rM.slice (Rect.unit (s := S2048x128) off S128x128.size inb) st : Memref sig (Dev.tc n : Thread nD τ).2.kind .vmem S128x128 .bf16).view.ref.isScScratch = false}
    {hsrc : (yM.slice (Rect.unit (s := S128x2048) offY S128x128.size inbY') stY).view.WordExact}
    {hdst : (rM.slice (Rect.unit (s := S2048x128) off S128x128.size inb) st).view.WordExact}
    {hsem : DmaTarget.Typed .vmem (.dma sR) (.remote (Dev.tc n : Thread nD τ) (rM.slice (Rect.unit (s := S2048x128) off S128x128.size inb) st : Memref sig (Dev.tc n : Thread nD τ).2.kind .vmem S128x128 .bf16) (.dma sS) hsc)}
    {α : Type} {Q : α → sProp 𝕄} {k : PUnit → Prog (TpuEff nD τ sig (Elt F) Λ₀ .tc) α} :
    iprop(records m K ∗ owing c (recvRem c j.val) ∗ yPts c j (YF m c) ∗ readyPay c j
        ∗ dutyTok ER (sendCell c j) 0 false ∗ dutyTok ER (recvCell j c) 0 false)
      ⊢ iprop(((owing c (recvRem c (j.val + 1)) ∗ cred (tallyAt (sendCell c j) () Nb)) -∗ run c (k ⟨⟩) Q)
        -∗ run c (.op (.enqueueDma (yM.slice (Rect.unit (s := S128x2048) offY S128x128.size inbY') stY)
            (.remote (Dev.tc n : Thread nD τ) (rM.slice (Rect.unit (s := S2048x128) off S128x128.size inb) st) (.dma sS) hsc) (.dma sR) hsrc hdst hsem) k) Q) := by
  subst hn ho hoY hS hR
  unfold owing readyPay
  iintro ⟨#HR, ⟨%W, HO⟩, HY, ⟨⟨%f, HD⟩, #HVR⟩, HTS, HTR⟩ Hk
  ihave #HIS := (records_inv m K (c, .dma (sendS n))) $$ HR
  ihave #HIR := (records_inv m K (n, .dma (recvS c))) $$ HR
  ihave #HVS := (records_reached m K (c, .dma (sendS n))) $$ HR
  unfold yPts rPts
  iapply (Rounds.wp_send_pointsTo 𝒱₀ ER (exRd m) (c : Thread nD τ) none (c' := (n : Thread nD τ)) (κ₁ := K (c, .dma (sendS n))) (κ₂ := K (n, .dma (recvS c)))
      (r₁ := 0) (r₂ := 0) (d₁ := false) (d₂ := false) (fd := f) (src := yBlk n) (dst := rBlk c)
      (duty_mem m c (.dma (sendS n)) (kd_send _ _ hj)) (duty_mem m n (.dma (recvS c)) (kd_recv _ _ hj.symm))
      () () Nb (Nb_eq c) ((amount_eq m c (.dma (sendS n)) false).trans (ka_send n)) ((amount_eq m n (.dma (recvS c)) false).trans (ka_recv c))
      (recvRem c (n.val + 1)) (recvRem_step c n hj) (W := W)
      (Entails.of_eq ((payload_eq m c (.dma (sendS n)) false).trans (kp_send m _ _)).symm)
      (Entails.of_eq (((payload_eq m n (.dma (recvS c)) false).trans (kp_recv m _ _)).trans
        (pointsTo_congr fun i hi => (land_block m n c f i hi).symm)).symm)) $$ [HO HY HD HTS HTR]
  · isplitr; · iexact HIS
    isplitr; · iexact HIR
    isplitl [HY]; · iexact HY
    isplitl [HD]; · iexact HD
    isplitl [HO]; · iexact HO
    isplitl [HTS]; · iexact HTS
    isplitr; · iexact HVS
    isplitl [HTR]; · iexact HTR
    iexact HVR
  iintro ⟨HC, HO⟩
  iapply Hk
  isplitl [HO]; · iexists _; iexact HO
  iexact HC

end Cert.Exchange
end
-- ==== Proof.Moves.lean ====
/-
The steps of one device that move blocks: the pair of statements that keeps the own block or sends another one, the local
copies, the receives and the drains.
-/
module

public import proofs.«01_k».proof.Proof.Steps

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

/-! ## One block of the product -/

/-- Column block `c` of the own product, stored in row block `c`, is what the receive buffer is to hold there. -/
theorem own_block (c : Dev nD) (f : S2048x128.Idx → Elt F .bf16) (i : S2048x128.Idx) (hi : i ∈ (rBlk c).view.set) :
    ((rM : Memref sig .tc .vmem S2048x128 .bf16).access (rectR c) : View sig .tc _ _ _).write (Elt F) f
      (((yM : Memref sig .tc .vmem S128x2048 .bf16).access (rectY c) : View sig .tc _ _ _).read (Elt F) (YF m c)) Finset.univ i = RF m c i := by
  obtain ⟨x, -, rfl⟩ := Finset.mem_map.mp hi
  refine (View.write_emb_of_mem _ _ (Finset.mem_univ x)).trans ?_
  exact (RF_emb m c c x).symm

/-- Blocks before `n` done, blocks up to `hi` of the product computed. -/
def BlkSt (c : Dev nD) (n hi : ℕ) : sProp 𝕄 := iprop(SendSt m c n ∗ ycols m c n hi)
/-- Where the first of the two statements about block `j` leaves: the block is done if it is the own one. -/
def mid (c j : Dev nD) : ℕ := if j = c then j.val + 1 else j.val

/-- Past a block that isn't the device's own nothing changes for its own. -/
theorem ownSt_next (c j : Dev nD) (h : j ≠ c) : ownSt m c j.val ⊢ ownSt m c (j.val + 1) := by
  unfold ownSt
  iintro ⟨%f, %hf, H⟩
  iexists f
  isplitr
  · ipureintro
    intro hlt
    exact hf (by have : c.val ≠ j.val := fun e => h (Fin.ext e.symm); omega)
  · iexact H

/-- The first statement: the own block goes into the own receive buffer, any other is left. -/
theorem step_own (c j : Dev nD) (hi : ℕ) (hhi : j.val < hi) {n : ℕ} (hn : n = j.val) {cond : BitVec 1} (hc : cond = 1#1 ↔ j = c)
    {oY : Fin 2 → Nat} (hoY : oY = ![0, 128 * c.val]) {inbY' : cond = 1#1 → ∀ a, oY a + S128x128.size a ≤ S128x2048.size a}
    {oR : Fin 2 → Nat} (hoR : oR = ![128 * c.val, 0]) {inbR' : cond = 1#1 → ∀ a, oR a + S128x128.size a ≤ S2048x128.size a}
    {hl₁ : ∀ h : cond = 1#1, (yM : Memref sig .tc .vmem S128x2048 .bf16).view.LoadsAt (Rect.unit (s := S128x2048) oY S128x128.size (inbY' h)).toLoadRect}
    {hl₂ : ∀ h : cond = 1#1, (rM : Memref sig .tc .vmem S2048x128 .bf16).view.LoadsAt (Rect.unit (s := S2048x128) oR S128x128.size (inbR' h)).toLoadRect}
    {pay : (S128x128.Idx → Elt F .bf16) → S128x128.Idx → Elt F .bf16} (hpay : ∀ v, pay v = v)
    {hst : ∀ h : cond = 1#1, ((rM : Memref sig .tc .vmem S2048x128 .bf16).access (Rect.unit (s := S2048x128) oR S128x128.size (inbR' h))).Stores Finset.univ}
    {hm : ∀ h : cond = 1#1, (Finset.univ : Finset S128x128.Idx) = Finset.univ ∨ ∀ a, (Rect.unit (s := S2048x128) oR S128x128.size (inbR' h)).stride a = 1}
    {α : Type} {Q : α → sProp 𝕄} {k : PUnit → Prog (TpuEff nD τ sig (Elt F) Λ₀ .tc) α} :
    BlkSt m c n hi
      ⊢ iprop((BlkSt m c (mid c j) hi -∗ run c (k ⟨⟩) Q)
        -∗ run c (if h : cond = 1#1 then
            .op (.load yM (Rect.unit (s := S128x2048) oY S128x128.size (inbY' h)).toLoadRect (hl₁ h)) fun v =>
            .op (.load rM (Rect.unit (s := S2048x128) oR S128x128.size (inbR' h)).toLoadRect (hl₂ h)) fun _ =>
            .op (.store rM (Rect.unit (s := S2048x128) oR S128x128.size (inbR' h)) (pay v) Finset.univ (hst h) (hm h)) fun _ => k ⟨⟩
          else k ⟨⟩) Q) := by
  subst hn hoY hoR
  by_cases h : cond = 1#1
  · obtain rfl := hc.mp h
    rw [dif_pos h]
    unfold BlkSt SendSt
    rw [ycols_take m j j hi hhi, sweep_take, show mid j j = j.val + 1 from if_pos rfl, sweep_put, ← recvRem_self]
    rw [sndA_self, sndB_self]
    unfold ownSt
    iintro ⟨⟨HO, ⟨⟨HA, -⟩, Hrest⟩, ⟨%f, -, HR⟩⟩, HY, Hys⟩ Hk
    unfold yPts rPts
    iapply (wp_load_rect 𝒱₀ (j : Thread nD τ) none Set.univ (m := yM) (r := rectY j) (Finset.Subset.refl _)) $$ HY
    iintro HY
    iapply (wp_load_rect 𝒱₀ (j : Thread nD τ) none Set.univ (m := rM) (r := rectR j) (Finset.Subset.refl _)) $$ HR
    iintro HR
    rw [hpay]
    iapply (wp_store 𝒱₀ (j : Thread nD τ) none Set.univ (m := rM) (r := rectR j) (Mk := Finset.univ) (S := (rBlk j).view.set) (Finset.Subset.refl _)) $$ HR
    iintro HR
    iapply Hk
    isplitr [Hys]
    · isplitl [HO]; · iexact HO
      isplitl [HA Hrest HY]
      · isplitl [HA HY]
        · isplitl [HA]; · iexact HA
          iexact HY
        · iexact Hrest
      · iexists (RF m j)
        isplitr; · ipureintro; intro _; rfl
        iapply (Entails.of_eq (pointsTo_congr fun i hi => own_block m j f i hi)); iexact HR
    · iexact Hys
  · rw [dif_neg h, show mid c j = j.val from if_neg fun e => h (hc.mpr e)]
    iintro H Hk
    iapply Hk; iexact H

/-- The second statement: any other block is sent to its device, once that is ready for it. -/
theorem step_put (c j : Dev nD) (hi : ℕ) (hhi : j.val < hi) {n' : ℕ} (hn' : n' = j.val + 1) {cond : BitVec 1} (hc : cond = 1#1 ↔ j ≠ c)
    {n : cond = 1#1 → Dev nD} (hn : ∀ h, n h = j) {off : Fin 2 → Nat} (ho : off = ![128 * c.val, 0])
    {inb : cond = 1#1 → ∀ a, off a + S128x128.size a ≤ S2048x128.size a} {offY : Fin 2 → Nat} (hoY : offY = ![0, 128 * j.val])
    {inbY' : cond = 1#1 → ∀ a, offY a + S128x128.size a ≤ S128x2048.size a}
    {st : ∀ (h : cond = 1#1) (a), (Rect.unit (s := S2048x128) off S128x128.size (inb h)).stride a = 1}
    {stY : ∀ (h : cond = 1#1) (a), (Rect.unit (s := S128x2048) offY S128x128.size (inbY' h)).stride a = 1}
    {sm : cond = 1#1 → Sem sig} (hs : ∀ h, sm h = readyS j) {w : Int} (hw : w = 1)
    {sS sR : cond = 1#1 → DmaSem sig} (hS : ∀ h, sS h = sendS j) (hR : ∀ h, sR h = recvS c)
    {hsc : ∀ h : cond = 1#1, (rM.slice (Rect.unit (s := S2048x128) off S128x128.size (inb h)) (st h) : Memref sig (Dev.tc (n h) : Thread nD τ).2.kind .vmem S128x128 .bf16).view.ref.isScScratch = false}
    {hsrc : ∀ h : cond = 1#1, (yM.slice (Rect.unit (s := S128x2048) offY S128x128.size (inbY' h)) (stY h)).view.WordExact}
    {hdst : ∀ h : cond = 1#1, (rM.slice (Rect.unit (s := S2048x128) off S128x128.size (inb h)) (st h)).view.WordExact}
    {hsem : ∀ h : cond = 1#1, DmaTarget.Typed .vmem (.dma (sR h)) (.remote (Dev.tc (n h) : Thread nD τ) (rM.slice (Rect.unit (s := S2048x128) off S128x128.size (inb h)) (st h) : Memref sig (Dev.tc (n h) : Thread nD τ).2.kind .vmem S128x128 .bf16) (.dma (sS h)) (hsc h))}
    {α : Type} {Q : α → sProp 𝕄} {k : PUnit → Prog (TpuEff nD τ sig (Elt F) Λ₀ .tc) α} :
    iprop(records m K ∗ BlkSt m c (mid c j) hi)
      ⊢ iprop((BlkSt m c n' hi -∗ run c (k ⟨⟩) Q)
        -∗ run c (if h : cond = 1#1 then
            .op (.semWait (sm h) w) fun _ =>
            .op (.enqueueDma (yM.slice (Rect.unit (s := S128x2048) offY S128x128.size (inbY' h)) (stY h))
              (.remote (Dev.tc (n h) : Thread nD τ) (rM.slice (Rect.unit (s := S2048x128) off S128x128.size (inb h)) (st h)) (.dma (sS h)) (hsc h))
              (.dma (sR h)) (hsrc h) (hdst h) (hsem h)) fun _ => k ⟨⟩
          else k ⟨⟩) Q) := by
  subst hn' hw
  by_cases h : cond = 1#1
  · have hj := hc.mp h
    rw [dif_pos h, show mid c j = j.val from if_neg hj]
    have e := hs h; revert e; generalize sm h = sm'; intro e; subst e
    unfold BlkSt SendSt
    rw [ycols_take m c j hi hhi, sweep_take, sweep_put, sndA_ne c j hj, sndB_ne m c j hj]
    iintro ⟨#HR, ⟨HO, ⟨⟨HA, HC, HTS, HTR⟩, Hrest⟩, Hown⟩, HY, Hys⟩ Hk
    iapply (step_wait m K c (.reg (readyS j)) (wpE_semWait_eq 𝒱₀ (c : Thread nD τ) none Set.univ) (k' := 1) (ka_ready j).symm (kd_ready c j hj) (recvRem c j.val)) $$ [HC HO HA]
    · isplitr; · iexact HR
      isplitl [HC]; · rw [ka_ready]; iexact HC
      isplitl [HO]; · iexact HO
      isplitr; · iapply (may_recv m K c j.val (.reg (readyS j)) (kl_ready j)); iexact HR
      iexact HA
    rw [kp_ready]
    iintro ⟨HO, HA, HP⟩
    iapply (step_send m K c j hj (hn h) ho hoY (hS h) (hR h)) $$ [HO HY HP HTS HTR]
    · isplitr; · iexact HR
      isplitl [HO]; · iexact HO
      isplitl [HY]; · iexact HY
      isplitl [HP]; · iexact HP
      isplitl [HTS] <;> iassumption
    iintro ⟨HO, HC⟩
    ihave Hown := (ownSt_next m c j hj) $$ Hown
    iapply Hk
    isplitr [Hys]
    · isplitl [HO]; · iexact HO
      isplitr [Hown]
      · isplitl [HA HC]
        · isplitl [HA] <;> iassumption
        · iexact Hrest
      · iexact Hown
    · iexact Hys
  · have hj : j = c := by by_contra e; exact h (hc.mpr e)
    rw [dif_neg h, show mid c j = j.val + 1 from if_pos hj]
    iintro ⟨-, H⟩ Hk
    iapply Hk; iexact H

end Cert.Exchange
end
-- ==== Proof.Phases.lean ====
/-
The remaining steps of one device: the local copies, the barrier, the two halves of the product, the receives and the drains.
-/
module

public import proofs.«01_k».proof.Proof.Moves

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

/-! ## The local copies -/

/-- The copy of `x` into its buffer, started. -/
theorem copy_x {α : Type} {Q : α → sProp 𝕄} {k : PUnit → Prog (TpuEff nD τ sig (Elt F) Λ₀ .tc) α} (c : Dev nD) {sm : DmaSem sig} (hs : sm = inS 0)
    {hsrc : xH.view.WordExact} {hdst : xM.view.WordExact}
    {hsem : DmaTarget.Typed (nD := nD) (τ := τ) .hbm (.dma sm) (DmaTarget.here (nD := nD) (τ := τ) (p := .tc) xM)} :
    iprop(records m K ∗ (∃ f, bufPts c cc0_scratch0 f) ∗ bufPts c main_arg0 (XF m c) ∗ dutyTok ER (kcell (c, .dma (inS 0))) 0 false)
      ⊢ iprop((cred (tallyAt (kcell (c, .dma (inS 0))) () Nx) -∗ run c (k ⟨⟩) Q)
        -∗ run c (.op (.enqueueDma xH (.here xM) (.dma sm) hsrc hdst hsem) k) Q) := by
  subst hs
  iintro ⟨#HR, ⟨%f, HD⟩, HS, HT⟩ Hk
  ihave #HI := (records_inv m K (c, .dma (inS 0))) $$ HR
  ihave #HV := (records_reached m K (c, .dma (inS 0))) $$ HR
  iapply (Rounds.wp_copy_pointsTo 𝒱₀ ER (exRd m) (c : Thread nD τ) none (κ := K (c, .dma (inS 0))) (src := xH) (dst := xM) (q := fullShare) (fs := XF m c) (fd := f)
      (duty_mem m c (.dma (inS 0)) (kd_x c)) () Nx Nx_eq ((amount_eq m c (.dma (inS 0)) false).trans ka_x)
      (by rw [payload_eq m c (.dma (inS 0)) false, kp_x, land_x, View.set_whole, View.set_whole])) $$ [HD HS HT]
  · isplitr; · iexact HI
    isplitl [HS]; · rw [View.set_whole]; iexact HS
    isplitl [HD]; · rw [View.set_whole]; iexact HD
    isplitl [HT]; · iexact HT
    iexact HV
  iexact Hk

/-- The copy of half `h` of `w` into its buffer, started. -/
theorem copy_w {α : Type} {Q : α → sProp 𝕄} {k : PUnit → Prog (TpuEff nD τ sig (Elt F) Λ₀ .tc) α} (c : Dev nD) (h : Fin 2) {off : Fin 2 → Nat} (ho : off = ![0, 1024 * h.val])
    {inb inb' : ∀ a, off a + S2048x1024.size a ≤ S2048x2048.size a} {st st' : ∀ a, (Rect.unit (s := S2048x2048) off S2048x1024.size inb).stride a = 1}
    {sm : DmaSem sig} (hs : sm = wS h)
    {hsrc : (wH.slice (Rect.unit (s := S2048x2048) off S2048x1024.size inb') st').view.WordExact} {hdst : (wM.slice (Rect.unit (s := S2048x2048) off S2048x1024.size inb) st).view.WordExact}
    {hsem : DmaTarget.Typed (nD := nD) (τ := τ) .hbm (.dma sm) (DmaTarget.here (nD := nD) (τ := τ) (p := .tc) (wM.slice (Rect.unit (s := S2048x2048) off S2048x1024.size inb) st))} :
    iprop(records m K ∗ (∃ f, wPts c h f) ∗ whPts c h (WF m c) ∗ dutyTok ER (kcell (c, .dma (wS h))) 0 false)
      ⊢ iprop((cred (tallyAt (kcell (c, .dma (wS h))) () Nw) -∗ run c (k ⟨⟩) Q)
        -∗ run c (.op (.enqueueDma (wH.slice (Rect.unit (s := S2048x2048) off S2048x1024.size inb') st') (.here (wM.slice (Rect.unit (s := S2048x2048) off S2048x1024.size inb) st)) (.dma sm) hsrc hdst hsem) k) Q) := by
  subst hs ho
  unfold wPts whPts
  iintro ⟨#HR, ⟨%f, HD⟩, HS, HT⟩ Hk
  ihave #HI := (records_inv m K (c, .dma (wS h))) $$ HR
  ihave #HV := (records_reached m K (c, .dma (wS h))) $$ HR
  have hpay : iprop(((wBlk h).view.loc (c : Thread nD τ) ↦[(wBlk h).view.set]{fullShare} ((wBlk h).view.write (Elt F) f ((wHBlk h).view.read (Elt F) (WF m c)) Finset.univ))
      ∗ ((wHBlk h).view.loc (c : Thread nD τ) ↦[(wHBlk h).view.set]{fullShare} (WF m c))) ⊢ (exRd m).payload (kcell (c, .dma (wS h))) 0 false := by
    rw [payload_eq m c (.dma (wS h)) false, kp_w]
    unfold wPts whPts
    rw [pointsTo_congr fun i hi => land_w m c h f i hi]
  iapply (Rounds.wp_copy_pointsTo 𝒱₀ ER (exRd m) (c : Thread nD τ) none (κ := K (c, .dma (wS h))) (src := wHBlk h) (dst := wBlk h) (q := fullShare) (fs := WF m c) (fd := f)
      (duty_mem m c (.dma (wS h)) (kd_w c h)) () Nw (Nw_eq h) ((amount_eq m c (.dma (wS h)) false).trans (ka_w h)) hpay) $$ [HD HS HT]
  · isplitr; · iexact HI
    isplitl [HS]; · iexact HS
    isplitl [HD]; · iexact HD
    isplitl [HT]; · iexact HT
    iexact HV
  iexact Hk

/-- The copy of the result out, started. -/
theorem copy_o {α : Type} {Q : α → sProp 𝕄} {k : PUnit → Prog (TpuEff nD τ sig (Elt F) Λ₀ .tc) α} (c : Dev nD) {sm : DmaSem sig} (hs : sm = inS 3)
    {hsrc : oM.view.WordExact} {hdst : oH.view.WordExact}
    {hsem : DmaTarget.Typed (nD := nD) (τ := τ) .vmem (.dma sm) (DmaTarget.here (nD := nD) (τ := τ) (p := .tc) oH)} :
    iprop(records m K ∗ (∃ f, bufPts c main_v1 f) ∗ bufPts c cc0_scratch4 (OF m c) ∗ dutyTok ER (kcell (c, .dma (inS 3))) 0 false)
      ⊢ iprop((cred (tallyAt (kcell (c, .dma (inS 3))) () No) -∗ run c (k ⟨⟩) Q)
        -∗ run c (.op (.enqueueDma oM (.here oH) (.dma sm) hsrc hdst hsem) k) Q) := by
  subst hs
  iintro ⟨#HR, ⟨%f, HD⟩, HS, HT⟩ Hk
  ihave #HI := (records_inv m K (c, .dma (inS 3))) $$ HR
  ihave #HV := (records_reached m K (c, .dma (inS 3))) $$ HR
  iapply (Rounds.wp_copy_pointsTo 𝒱₀ ER (exRd m) (c : Thread nD τ) none (κ := K (c, .dma (inS 3))) (src := oM) (dst := oH) (q := fullShare) (fs := OF m c) (fd := f)
      (duty_mem m c (.dma (inS 3)) (kd_o c)) () No No_eq ((amount_eq m c (.dma (inS 3)) false).trans ka_o)
      (by rw [payload_eq m c (.dma (inS 3)) false, kp_o, land_o, View.set_whole, View.set_whole])) $$ [HD HS HT]
  · isplitr; · iexact HI
    isplitl [HS]; · rw [View.set_whole]; iexact HS
    isplitl [HD]; · rw [View.set_whole]; iexact HD
    isplitl [HT]; · iexact HT
    iexact HV
  iexact Hk

/-! ## The barrier -/

/-- One of the two signals to a neighbour's barrier. -/
theorem step_bar {α : Type} {Q : α → sProp 𝕄} {k : PUnit → Prog (TpuEff nD τ sig (Elt F) Λ₀ .tc) α} (c t : Dev nD) (b : Bool) (O : CellTallies nD τ sig Unit) {n : Dev nD} (hn : n = t) {sm : Sem sig} (hs : sm = barS)
    {w : Int} (hw : w = ((1 : ℕ) : Int)) :
    iprop(records m K ∗ owing c (O + tallyAt (barCell t) () 1) ∗ dutyTok ER (barCell t) 0 b)
      ⊢ iprop((owing c O -∗ run c (k ⟨⟩) Q) -∗ run c (.op (.semSignal (n : Thread nD τ) sm w) k) Q) := by
  subst hn hs hw
  unfold owing
  iintro ⟨#HR, ⟨%W, HO⟩, HT⟩ Hk
  ihave #HI := (records_inv m K (n, .reg barS)) $$ HR
  ihave #HV := (records_reached m K (n, .reg barS)) $$ HR
  iapply (Rounds.wp_signal 𝒱₀ ER (exRd m) (c : Thread nD τ) none (dst := (n : Thread nD τ)) (κ := K (n, .reg barS))
      (d := b) (duty_bar m n b) (amount_eq m n (.reg barS) b) () (O₀ := O + tallyAt (barCell n) () 1) O rfl) $$ [HO HT]
  · isplitr; · iexact HI
    isplitl [HO]; · iexact HO
    isplitl [HT]; · iexact HT
    isplitr
    · iapply (Entails.of_eq (payload_eq m n (.reg barS) b).symm)
      iempintro
    · iexact HV
  iintro HO
  iapply Hk
  iexists _; iexact HO

/-- The wait for both neighbours. -/
theorem step_bar_wait {α : Type} {Q : α → sProp 𝕄} {k : PUnit → Prog (TpuEff nD τ sig (Elt F) Λ₀ .tc) α} (c : Dev nD) {sm : Sem sig} (hs : sm = barS) {w : Int} (hw : w = ((2 : ℕ) : Int)) :
    iprop(records m K ∗ cred (tallyAt (barCell c) () 2) ∗ owing c (recvRem c 0) ∗ atPos ER (barCell c) 0 ∅ 0)
      ⊢ iprop(((owing c (recvRem c 0) ∗ atPos ER (barCell c) 1 ∅ 0) -∗ run c (k ⟨⟩) Q) -∗ run c (.op (.semWait sm w) k) Q) := by
  subst hs hw
  unfold owing
  iintro ⟨#HR, HC, ⟨%W, HO⟩, HA⟩ Hk
  ihave #HI := (records_inv m K (c, .reg barS)) $$ HR
  iapply (Rounds.wp_wait_rest_token 𝒱₀ ER (exRd m) (c : Thread nD τ) none (κ := K (c, .reg barS)) (wpE_semWait_eq 𝒱₀ (c : Thread nD τ) none Set.univ) (Set.mem_univ _)
      () (O := recvRem c 0) (W := W) (R := 0) (m := 0) (T := ∅) (by rw [Nat.zero_add, expect_bar m c])) $$ [HC HO HA]
  · isplitr; · iexact HI
    isplitl [HC]; · iexact HC
    isplitl [HO]; · iexact HO
    isplitr
    · iapply (may_recv m K c 0 (.reg barS) (by rw [kind_bar]; exact Nat.le_succ 1)); iexact HR
    · iexact HA
  iintro ⟨HO, HA, -, -⟩
  iapply Hk
  isplitl [HO]; · iexists _; iexact HO
  iexact HA

/-! ## Waiting for the inputs -/

/-- The wait for the rows of `x`: it gives the filled copy and the given rows back. -/
theorem wait_x {α : Type} {Q : α → sProp 𝕄} {k : PUnit → Prog (TpuEff nD τ sig (Elt F) Λ₀ .tc) α} (c : Dev nD) {sm : DmaSem sig} (hs : sm = inS 0) {hsrc : xH.view.WordExact} {hdst : xM.view.WordExact} :
    iprop(records m K ∗ cred (tallyAt (kcell (c, .dma (inS 0))) () Nx) ∗ owing c (recvRem c 0) ∗ atPos ER (kcell (c, .dma (inS 0))) 0 ∅ 0)
      ⊢ iprop(((owing c (recvRem c 0) ∗ atPos ER (kcell (c, .dma (inS 0))) 1 ∅ 0 ∗ bufPts c cc0_scratch0 (XF m c) ∗ bufPts c main_arg0 (XF m c))
          -∗ run c (k ⟨⟩) Q) -∗ run c (.op (.waitDma2 sm xH xM hsrc hdst) k) Q) := by
  subst hs
  have h := step_wait (k := k) (Q := Q) m K c (.dma (inS 0)) (wpE_waitDma2_eq 𝒱₀ (c : Thread nD τ) none Set.univ (src := xH) (dst := xM) (hsrc := hsrc) (hdst := hdst))
    Nx_eq (kd_x c) (recvRem c 0)
  rw [ka_x, kp_x] at h
  refine (show _ ⊢ _ from ?_).trans h
  iintro ⟨#HR, HC, HO, HA⟩
  isplitr; · iexact HR
  isplitl [HC]; · iexact HC
  isplitl [HO]; · iexact HO
  isplitr; · iapply (may_recv m K c 0 (.dma (inS 0)) (Nat.zero_le 2)); iexact HR
  iexact HA

/-- The wait for half `h` of `w`: it gives the filled half and the given half back. -/
theorem wait_w {α : Type} {Q : α → sProp 𝕄} {k : PUnit → Prog (TpuEff nD τ sig (Elt F) Λ₀ .tc) α} (c : Dev nD) (h : Fin 2) (n : ℕ) {off : Fin 2 → Nat} (ho : off = ![0, 1024 * h.val])
    {inb inb' : ∀ a, off a + S2048x1024.size a ≤ S2048x2048.size a} {st st' : ∀ a, (Rect.unit (s := S2048x2048) off S2048x1024.size inb).stride a = 1}
    {sm : DmaSem sig} (hs : sm = wS h)
    {hsrc : (wH.slice (Rect.unit (s := S2048x2048) off S2048x1024.size inb') st').view.WordExact} {hdst : (wM.slice (Rect.unit (s := S2048x2048) off S2048x1024.size inb) st).view.WordExact} :
    iprop(records m K ∗ cred (tallyAt (kcell (c, .dma (wS h))) () Nw) ∗ owing c (recvRem c n) ∗ atPos ER (kcell (c, .dma (wS h))) 0 ∅ 0)
      ⊢ iprop(((owing c (recvRem c n) ∗ atPos ER (kcell (c, .dma (wS h))) 1 ∅ 0 ∗ wPts c h (WF m c) ∗ whPts c h (WF m c))
          -∗ run c (k ⟨⟩) Q) -∗ run c (.op (.waitDma2 sm (wH.slice (Rect.unit (s := S2048x2048) off S2048x1024.size inb') st') (wM.slice (Rect.unit (s := S2048x2048) off S2048x1024.size inb) st) hsrc hdst) k) Q) := by
  subst hs ho
  have e := step_wait (k := k) (Q := Q) m K c (.dma (wS h)) (wpE_waitDma2_eq 𝒱₀ (c : Thread nD τ) none Set.univ (src := wHBlk h) (dst := wBlk h) (hsrc := hsrc) (hdst := hdst))
    ((Nw_eq h).trans (ka_w h).symm) (kd_w c h) (recvRem c n)
  rw [ka_w, kp_w] at e
  refine (show _ ⊢ _ from ?_).trans e
  iintro ⟨#HR, HC, HO, HA⟩
  isplitr; · iexact HR
  isplitl [HC]; · iexact HC
  isplitl [HO]; · iexact HO
  isplitr; · iapply (may_recv m K c n (.dma (wS h)) (le_of_eq_of_le (kl_w h) (Nat.zero_le 2))); iexact HR
  iexact HA

/-- The last wait: the result is out. -/
theorem wait_o {α : Type} {Q : α → sProp 𝕄} {k : PUnit → Prog (TpuEff nD τ sig (Elt F) Λ₀ .tc) α} (c : Dev nD) {sm : DmaSem sig} (hs : sm = inS 3) {hsrc : oM.view.WordExact} {hdst : oH.view.WordExact} :
    iprop(records m K ∗ cred (tallyAt (kcell (c, .dma (inS 3))) () No) ∗ owing c 0 ∗ atPos ER (kcell (c, .dma (inS 3))) 0 ∅ 0)
      ⊢ iprop(((owing c 0 ∗ atPos ER (kcell (c, .dma (inS 3))) 1 ∅ 0 ∗ bufPts c main_v1 (OF m c) ∗ bufPts c cc0_scratch4 (OF m c))
          -∗ run c (k ⟨⟩) Q) -∗ run c (.op (.waitDma2 sm oM oH hsrc hdst) k) Q) := by
  subst hs
  have h := step_wait (k := k) (Q := Q) m K c (.dma (inS 3)) (wpE_waitDma2_eq 𝒱₀ (c : Thread nD τ) none Set.univ (src := oM) (dst := oH) (hsrc := hsrc) (hdst := hdst))
    No_eq (kd_o c) 0
  rw [ka_o, kp_o] at h
  refine (show _ ⊢ _ from ?_).trans h
  iintro ⟨#HR, HC, HO, HA⟩
  isplitr; · iexact HR
  isplitl [HC]; · iexact HC
  isplitl [HO]; · iexact HO
  isplitr; · iapply (Entails.of_eq (MayWait_zero _ _ _).symm); iempintro
  iexact HA

/-! ## The product -/

/-- Half `h` of device `c`'s product buffer. -/
def yhPts (c : Dev nD) (h : Fin 2) (f : S128x2048.Idx → Elt F .bf16) : sProp 𝕄 :=
  (yHalf h).view.loc (c : Thread nD τ) ↦[(yHalf h).view.set]{fullShare} f

/-- A half of the product is its eight column blocks. -/
theorem yh_split (c : Dev nD) (h : Fin 2) : yhPts c h (YF m c) = ycols m c (8 * h.val) (8 * h.val + 8) := by
  unfold yhPts ycols yPts
  have e : (yHalf h).view.set = (Finset.univ.filter fun j : Dev nD => 8 * h.val ≤ j.val ∧ j.val < 8 * h.val + 8).biUnion fun j => (yBlk j).view.set := by
    refine Finset.ext fun i : S128x2048.Idx => (mem_yHalf h i).trans (Iff.trans ?_ Finset.mem_biUnion.symm)
    have hi : (i 1).val < 2048 := (i 1).isLt
    constructor
    · intro hh
      obtain ⟨j, ej⟩ : ∃ j : Dev nD, (i 1).val / 128 = j.val := ⟨⟨(i 1).val / 128, by show _ < 16; omega⟩, rfl⟩
      exact ⟨j, Finset.mem_filter.mpr ⟨Finset.mem_univ _, by omega⟩, (mem_yBlk j i).mpr ej⟩
    · rintro ⟨j, hj, hij⟩
      have h1 := (Finset.mem_filter.mp hj).2
      have h2 := (mem_yBlk j i).mp hij
      omega
  rw [e]
  refine pointsTo_biUnion _ _ fun j _ j' _ hne => Finset.disjoint_left.mpr fun i h1 h2 => hne (Fin.ext ?_)
  exact ((mem_yBlk j i).mp h1).symm.trans ((mem_yBlk j' i).mp h2)

/-- The product of half `h` of `w`, computed and stored. -/
theorem step_half {α : Type} {Q : α → sProp 𝕄} {k : PUnit → Prog (TpuEff nD τ sig (Elt F) Λ₀ .tc) α} (c : Dev nD) (h : Fin 2) {off : Fin 2 → Nat} (ho : off = ![0, 1024 * h.val])
    {inbW' : ∀ a, off a + S2048x1024.size a ≤ S2048x2048.size a} {inbY' : ∀ a, off a + S128x1024.size a ≤ S128x2048.size a}
    {inbX : ∀ a, (![0, 0] : Fin 2 → Nat) a + S128x2048.size a ≤ S128x2048.size a}
    {hl₁ : (xM : Memref sig .tc .vmem S128x2048 .f32).view.LoadsAt (Rect.unit (s := S128x2048) ![0, 0] S128x2048.size inbX).toLoadRect}
    {hl₂ : (wM : Memref sig .tc .vmem S2048x2048 .f32).view.LoadsAt (Rect.unit (s := S2048x2048) off S2048x1024.size inbW').toLoadRect}
    {hl₃ : (yM : Memref sig .tc .vmem S128x2048 .bf16).view.LoadsAt (Rect.unit (s := S128x2048) off S128x1024.size inbY').toLoadRect}
    {pay : (S128x2048.Idx → Elt F .f32) → (S2048x1024.Idx → Elt F .f32) → S128x1024.Idx → Elt F .bf16} (hpay : pay = k0_pay1)
    {hst : ((yM : Memref sig .tc .vmem S128x2048 .bf16).access (Rect.unit (s := S128x2048) off S128x1024.size inbY')).Stores Finset.univ}
    {hm : (Finset.univ : Finset S128x1024.Idx) = Finset.univ ∨ ∀ a, (Rect.unit (s := S128x2048) off S128x1024.size inbY').stride a = 1} :
    iprop(bufPts c cc0_scratch0 (XF m c) ∗ wPts c h (WF m c) ∗ ∃ f, yhPts c h f)
      ⊢ iprop(((bufPts c cc0_scratch0 (XF m c) ∗ wPts c h (WF m c) ∗ ycols m c (8 * h.val) (8 * h.val + 8)) -∗ run c (k ⟨⟩) Q)
        -∗ run c (.op (.load xM (Rect.unit (s := S128x2048) ![0, 0] S128x2048.size inbX).toLoadRect hl₁) fun v₁ =>
          .op (.load wM (Rect.unit (s := S2048x2048) off S2048x1024.size inbW').toLoadRect hl₂) fun v₂ =>
          .op (.load yM (Rect.unit (s := S128x2048) off S128x1024.size inbY').toLoadRect hl₃) fun _ =>
          .op (.store yM (Rect.unit (s := S128x2048) off S128x1024.size inbY') (pay v₁ v₂) Finset.univ hst hm) k) Q) := by
  subst ho hpay
  rw [← yh_split]
  unfold wPts yhPts
  iintro ⟨HX, HW, ⟨%f, HY⟩⟩ Hk
  iapply (wp_load 𝒱₀ (c : Thread nD τ) none Set.univ (m := xM) (Finset.subset_univ _)) $$ HX
  have hx : (xM : Memref sig .tc .vmem S128x2048 .f32).view.readAt (Elt F) (Rect.unit (s := S128x2048) ![0, 0] S128x2048.size inbX).toLoadRect (XF m c) = XF m c :=
    Memref.readAt_unit_zero (Elt F) cc0_scratch0 (by funext a; fin_cases a <;> rfl) inbX (XF m c)
  rw [hx]
  iintro HX
  iapply (wp_load_rect 𝒱₀ (c : Thread nD τ) none Set.univ (m := wM) (r := rectW h) (S := (wBlk h).view.set) (Finset.Subset.refl _)) $$ HW
  have hw : ((wM : Memref sig .tc .vmem S2048x2048 .f32).access (rectW h) : View sig .tc _ _ _).read (Elt F) (WF m c) = WH m c h := rfl
  rw [hw]
  have hs := store_half m c h f
  generalize k0_pay1 (XF m c) (WH m c h) = v at hs ⊢
  iintro HW
  iapply (wp_load_rect 𝒱₀ (c : Thread nD τ) none Set.univ (m := yM) (r := rectYh h) (S := (yHalf h).view.set) (Finset.Subset.refl _)) $$ HY
  iintro HY
  iapply (wp_store 𝒱₀ (c : Thread nD τ) none Set.univ (m := yM) (r := rectYh h) (Mk := Finset.univ) (S := (yHalf h).view.set) (Finset.Subset.refl _)) $$ HY
  iintro HY
  iapply Hk
  isplitl [HX]; · iexact HX
  isplitl [HW]; · iexact HW
  have he : ((yHalf h).view.loc (c : Thread nD τ) ↦[(yHalf h).view.set]{fullShare} (((yM : Memref sig .tc .vmem S128x2048 .bf16).access (rectYh h) : View sig .tc _ _ _).write (Elt F) f v Finset.univ) : sProp 𝕄)
      = ((yHalf h).view.loc (c : Thread nD τ) ↦[(yHalf h).view.set]{fullShare} (YF m c)) := pointsTo_congr hs
  iapply (Entails.of_eq he); iexact HY

/-! ## The receives -/

/-- Before the `d`-th receive: the position of its semaphore and the credit to wait for it. The own block (`d = 0`) is there. -/
def rcvA (c d : Dev nD) : sProp 𝕄 :=
  iprop(atPos ER (recvCell c (bwd c d)) 0 ∅ 0 ∗ if d.val = 0 then rPts c (bwd c d) (RF m c) else cred (tallyAt (recvCell c (bwd c d)) () Nb))
/-- After it: the block. -/
def rcvB (c d : Dev nD) : sProp 𝕄 :=
  iprop(atPos ER (recvCell c (bwd c d)) (if d.val = 0 then 0 else 1) ∅ 0 ∗ rPts c (bwd c d) (RF m c))
/-- The result buffer, with the rows of the first `n` sources done. -/
def OutSt (c : Dev nD) (n : ℕ) : sProp 𝕄 :=
  iprop(∃ f : S2048x128.Idx → Elt F .f32, ⌜∀ i, (bwd c (srcOf i)).val < n → f i = OF m c i⌝ ∗ bufPts c cc0_scratch4 f)
/-- Received up to `n`, written up to `o`. -/
def RcvSt (c : Dev nD) (n o : ℕ) : sProp 𝕄 := iprop(owing c 0 ∗ sweep (rcvA m c) (rcvB m c) n ∗ OutSt m c o)

/-- The wait for the block of the `d`-th device before `c`. -/
theorem step_recv {α : Type} {Q : α → sProp 𝕄} {k : PUnit → Prog (TpuEff nD τ sig (Elt F) Λ₀ .tc) α} (c d : Dev nD) (hd : d.val ≠ 0) {n n' : ℕ} (hn : n = d.val) (hn' : n' = d.val + 1) (o : ℕ) {sm : DmaSem sig} (hs : sm = recvS (bwd c d))
    {sp sp' : Space} {s s' : Shape} {e e' : EltTy} {src : Memref sig .tc sp' s' e'} {dst : Memref sig .tc sp s e} {hsrc : src.view.WordExact} {hdst : dst.view.WordExact}
    (hN : dst.view.dmaCredit = Nb) :
    iprop(records m K ∗ RcvSt m c n o)
      ⊢ iprop((RcvSt m c n' o -∗ run c (k ⟨⟩) Q) -∗ run c (.op (.waitDma2 sm src dst hsrc hdst) k) Q) := by
  subst hs hn hn'
  have h := step_wait (k := k) (Q := Q) m K c (.dma (recvS (bwd c d))) (wpE_waitDma2_eq 𝒱₀ (c : Thread nD τ) none Set.univ (src := src) (dst := dst) (hsrc := hsrc) (hdst := hdst))
    (hN.trans (ka_recv _).symm) (kd_recv c _ (bwd_ne c d hd)) 0
  rw [ka_recv, kp_recv] at h
  unfold RcvSt
  rw [sweep_take, sweep_put]
  iintro ⟨#HR, HO, ⟨HA, Hrest⟩, Hout⟩ Hk
  unfold rcvA rcvB
  rw [if_neg hd, if_neg hd]
  icases HA with ⟨HA, HC⟩
  iapply h $$ [HC HO HA]
  · isplitr; · iexact HR
    isplitl [HC]; · iexact HC
    isplitl [HO]; · iexact HO
    isplitr; · iapply (Entails.of_eq (MayWait_zero _ _ _).symm); iempintro
    iexact HA
  iintro ⟨HO, HA, HP⟩
  iapply Hk
  isplitl [HO]; · iexact HO
  isplitr [Hout]
  · isplitl [HA HP]
    · isplitl [HA] <;> iassumption
    · iexact Hrest
  · iexact Hout

/-- A received block is read. -/
theorem step_read {α : Type} {Q : α → sProp 𝕄} (c d : Dev nD) (n o : ℕ) (hd : d.val < n) {off : Fin 2 → Nat} (ho : off = ![128 * (bwd c d).val, 0])
    {inb : ∀ a, off a + S128x128.size a ≤ S2048x128.size a}
    {hl : (rM : Memref sig .tc .vmem S2048x128 .bf16).view.LoadsAt (Rect.unit (s := S2048x128) off S128x128.size inb).toLoadRect}
    {k : (S128x128.Idx → Elt F .bf16) → Prog (TpuEff nD τ sig (Elt F) Λ₀ .tc) α} :
    RcvSt m c n o ⊢ iprop((RcvSt m c n o -∗ run c (k fun x => RF m c ((rectR (bwd c d)).emb x)) Q)
        -∗ run c (.op (.load rM (Rect.unit (s := S2048x128) off S128x128.size inb).toLoadRect hl) k) Q) := by
  subst ho
  unfold RcvSt
  iintro ⟨HO, HS, Hout⟩ Hk
  ihave HS := (sweep_look (rcvA m c) (rcvB m c) d n hd) $$ HS
  icases HS with ⟨HB, Hback⟩
  ihave HB := (Entails.of_eq (show rcvB m c d = iprop(atPos ER (recvCell c (bwd c d)) (if d.val = 0 then 0 else 1) ∅ 0 ∗ rPts c (bwd c d) (RF m c)) from rfl)) $$ HB
  icases HB with ⟨HA, HP⟩
  unfold rPts
  iapply (wp_load_rect 𝒱₀ (c : Thread nD τ) none Set.univ (m := rM) (r := rectR (bwd c d)) (S := (rBlk (bwd c d)).view.set) (Finset.Subset.refl _)) $$ HP
  iintro HP
  iapply Hk
  isplitl [HO]; · iexact HO
  isplitr [Hout]
  · iapply Hback
    unfold rcvB rPts
    isplitl [HA] <;> iassumption
  · iexact Hout

/-- The result buffer is read, at whatever it holds. -/
theorem step_peek {α : Type} {Q : α → sProp 𝕄} (c : Dev nD) (n o : ℕ) {r : LoadRect S2048x128} {hl : (oM : Memref sig .tc .vmem S2048x128 .f32).view.LoadsAt r}
    {k : (r.shape.Idx → Elt F .f32) → Prog (TpuEff nD τ sig (Elt F) Λ₀ .tc) α} :
    RcvSt m c n o ⊢ iprop((∀ v, RcvSt m c n o -∗ run c (k v) Q) -∗ run c (.op (.load oM r hl) k) Q) := by
  unfold RcvSt OutSt
  iintro ⟨HO, HS, ⟨%f, %hf, HF⟩⟩ Hk
  iapply (wp_load 𝒱₀ (c : Thread nD τ) none Set.univ (m := oM) (Finset.subset_univ _)) $$ HF
  iintro HF
  iapply Hk
  isplitl [HO]; · iexact HO
  isplitl [HS]; · iexact HS
  iexists f
  isplitr; · ipureintro; exact hf
  iexact HF

/-- The widened block is stored. -/
theorem step_write {α : Type} {Q : α → sProp 𝕄} {k : PUnit → Prog (TpuEff nD τ sig (Elt F) Λ₀ .tc) α} (c d : Dev nD) (n : ℕ) {o o' : ℕ} (hdo : o = d.val) (hdo' : o' = d.val + 1) {off : Fin 2 → Nat} (ho : off = ![128 * (bwd c d).val, 0])
    {inb : ∀ a, off a + S128x128.size a ≤ S2048x128.size a} {w : S128x128.Idx → Elt F .f32}
    (hw : ∀ x, w x = FloatOps.extf .f32 bitsLt_bf16_f32 (RF m c ((rectR (bwd c d)).emb x)))
    {hst : ((oM : Memref sig .tc .vmem S2048x128 .f32).access (Rect.unit (s := S2048x128) off S128x128.size inb)).Stores Finset.univ}
    {hm : (Finset.univ : Finset S128x128.Idx) = Finset.univ ∨ ∀ a, (Rect.unit (s := S2048x128) off S128x128.size inb).stride a = 1} :
    RcvSt m c n o ⊢ iprop((RcvSt m c n o' -∗ run c (k ⟨⟩) Q)
        -∗ run c (.op (.store oM (Rect.unit (s := S2048x128) off S128x128.size inb) w Finset.univ hst hm) k) Q) := by
  subst ho hdo hdo'
  unfold RcvSt OutSt
  iintro ⟨HO, HS, ⟨%f, %hf, HF⟩⟩ Hk
  iapply (wp_store 𝒱₀ (c : Thread nD τ) none Set.univ (m := oM) (r := rectR (bwd c d)) (Mk := Finset.univ) (Finset.subset_univ _)) $$ HF
  iintro HF
  iapply Hk
  isplitl [HO]; · iexact HO
  isplitl [HS]; · iexact HS
  iexists _
  isplitr [HF]
  rotate_left
  · iexact HF
  · ipureintro
    intro i hi
    by_cases e : srcOf i = bwd c d
    · exact store_row m c (bwd c d) f w hw i (congrArg Fin.val e)
    · refine (store_row_ne (bwd c d) f w i fun h => e (Fin.ext h)).trans (hf i ?_)
      have : (bwd c (srcOf i)).val ≠ d.val := fun h => e (by rw [← Fin.ext h, bwd_bwd])
      omega

/-! ## The drains -/

/-- Before the drain of transfer `j`, and after it. -/
def drA (c j : Dev nD) : sProp 𝕄 :=
  iprop(atPos ER (sendCell c j) 0 ∅ 0 ∗ if j = c then yPts c j (YF m c) else cred (tallyAt (sendCell c j) () Nb))
/-- After the drain of transfer `j` its column block is back. -/
def drB (c j : Dev nD) : sProp 𝕄 := iprop(atPos ER (sendCell c j) (rnd c j) ∅ 0 ∗ yPts c j (YF m c))
/-- The drains before device `n` done, the others to come. -/
def DrSt (c : Dev nD) (n : ℕ) : sProp 𝕄 := iprop(owing c 0 ∗ sweep (drA m c) (drB m c) n)

/-- The wait for transfer `j` to have left, if there is one. -/
theorem step_drain {α : Type} {Q : α → sProp 𝕄} {k : PUnit → Prog (TpuEff nD τ sig (Elt F) Λ₀ .tc) α} (c j : Dev nD) {n n' : ℕ} (hn : n = j.val) (hn' : n' = j.val + 1) {cond : BitVec 1} (hc : cond = 1#1 ↔ j ≠ c)
    {sm : cond = 1#1 → DmaSem sig} (hs : ∀ h, sm h = sendS j)
    {sp sp' : Space} {s s' : Shape} {e e' : EltTy} {src : cond = 1#1 → Memref sig .tc sp' s' e'} {dst : cond = 1#1 → Memref sig .tc sp s e}
    {hsrc : ∀ h, (src h).view.WordExact} {hdst : ∀ h, (dst h).view.WordExact} (hN : ∀ h, (dst h).view.dmaCredit = Nb) :
    iprop(records m K ∗ DrSt m c n)
      ⊢ iprop((DrSt m c n' -∗ run c (k ⟨⟩) Q)
        -∗ run c (if h : cond = 1#1 then .op (.waitDma2 (sm h) (src h) (dst h) (hsrc h) (hdst h)) fun _ => k ⟨⟩ else k ⟨⟩) Q) := by
  subst hn hn'
  unfold DrSt
  rw [sweep_take, sweep_put]
  by_cases hcd : cond = 1#1
  · have hj := hc.mp hcd
    rw [dif_pos hcd]
    have e := hs hcd; revert e; generalize sm hcd = sm'; intro e; subst e
    have h := step_wait (k := fun _ => k ⟨⟩) (Q := Q) m K c (.dma (sendS j))
      (wpE_waitDma2_eq 𝒱₀ (c : Thread nD τ) none Set.univ (src := src hcd) (dst := dst hcd) (hsrc := hsrc hcd) (hdst := hdst hcd))
      ((hN hcd).trans (ka_send j).symm) (kd_send c _ hj) 0
    rw [ka_send, kp_send] at h
    unfold drA drB rnd
    rw [if_neg hj, if_neg hj]
    iintro ⟨#HR, HO, ⟨⟨HA, HC⟩, Hrest⟩⟩ Hk
    iapply h $$ [HC HO HA]
    · isplitr; · iexact HR
      isplitl [HC]; · iexact HC
      isplitl [HO]; · iexact HO
      isplitr; · iapply (Entails.of_eq (MayWait_zero _ _ _).symm); iempintro
      iexact HA
    iintro ⟨HO, HA, HP⟩
    iapply Hk
    isplitl [HO]; · iexact HO
    isplitl [HA HP]
    · isplitl [HA] <;> iassumption
    · iexact Hrest
  · have hj : j = c := by by_contra h; exact hcd (hc.mpr h)
    subst hj
    rw [dif_neg hcd]
    unfold drA drB rnd
    rw [if_pos rfl, if_pos rfl]
    iintro ⟨-, H⟩ Hk
    iapply Hk; iexact H

end Cert.Exchange
end
-- ==== Proof.Ledger.lean ====
/-
Cutting a device's buffers into the blocks the phases use and putting the blocks together again, and adding up what all
devices owe.
-/
module

public import proofs.«01_k».proof.Proof.Phases

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers and blocks -/

/-- A buffer cut into blocks by a key is held block by block. -/
theorem cut {ℓ : Loc nD τ sig} {n : ℕ} (I : Fin n → Finset (Idx ℓ)) (key : Idx ℓ → ℕ) (hI : ∀ b i, i ∈ I b ↔ key i = b.val) (hk : ∀ i, key i < n)
    (f : Buf (Elt F) ℓ) : (ℓ ↦{fullShare} f : sProp 𝕄) = bigSep Finset.univ fun b : Fin n => ℓ ↦[I b]{fullShare} f := by
  have e : Finset.univ = Finset.univ.biUnion I :=
    (Finset.eq_univ_iff_forall.mpr fun i => Finset.mem_biUnion.mpr ⟨⟨key i, hk i⟩, Finset.mem_univ _, (hI _ i).mpr rfl⟩).symm
  refine (show (ℓ ↦{fullShare} f : sProp 𝕄) = ℓ ↦[Finset.univ.biUnion I]{fullShare} f by rw [← e]).trans (pointsTo_biUnion _ _ fun b _ b' _ h => ?_)
  exact Finset.disjoint_left.mpr fun i h1 h2 => h (Fin.ext (((hI b i).mp h1).symm.trans ((hI b' i).mp h2)))

/-- A column of `w` lies in one of the two halves. -/
theorem col_lt (i : S2048x2048.Idx) : (i 1).val / 1024 < 2 := by have h : (i 1).val < 2048 := (i 1).isLt; omega

/-- The buffer for `w` is its halves; -/
theorem w_cut (c : Dev nD) (f : S2048x2048.Idx → Elt F .f32) : bufPts c cc0_scratch1 f = iprop(wPts c 0 f ∗ wPts c 1 f) := by
  refine (cut (ℓ := (c : Thread nD τ).loc cc0_scratch1) (fun h : Fin 2 => (wBlk h).view.set) (fun i : S2048x2048.Idx => (i 1).val / 1024)
    (fun b i => mem_wBlk b i) col_lt f).trans ?_
  rw [bigSep_fin_two]; rfl
/-- so is `w` itself; -/
theorem wh_cut (c : Dev nD) (f : S2048x2048.Idx → Elt F .f32) : bufPts c main_arg1 f = iprop(whPts c 0 f ∗ whPts c 1 f) := by
  refine (cut (ℓ := (c : Thread nD τ).loc main_arg1) (fun h : Fin 2 => (wHBlk h).view.set) (fun i : S2048x2048.Idx => (i 1).val / 1024)
    (fun b i => by rw [wHBlk_set]; exact mem_wBlk b i) col_lt f).trans ?_
  rw [bigSep_fin_two]; rfl
/-- so is the product buffer, -/
theorem y_cut (c : Dev nD) (f : S128x2048.Idx → Elt F .bf16) : bufPts c cc0_scratch2 f = iprop(yhPts c 0 f ∗ yhPts c 1 f) := by
  refine (cut (ℓ := (c : Thread nD τ).loc cc0_scratch2) (fun h : Fin 2 => (yHalf h).view.set) (fun i : S128x2048.Idx => (i 1).val / 1024)
    (fun b i => mem_yHalf b i) (fun i => by have h : (i 1).val < 2048 := (i 1).isLt; omega) f).trans ?_
  rw [bigSep_fin_two]; rfl
/-- which is also its sixteen column blocks; -/
theorem y_blocks (c : Dev nD) (f : S128x2048.Idx → Elt F .bf16) : bufPts c cc0_scratch2 f = bigSep Finset.univ fun j : Dev nD => yPts c j f :=
  cut (ℓ := (c : Thread nD τ).loc cc0_scratch2) (fun j : Dev nD => (yBlk j).view.set) (fun i : S128x2048.Idx => (i 1).val / 128)
    (fun b i => mem_yBlk b i) (fun i => by have h : (i 1).val < 2048 := (i 1).isLt; show _ < 16; omega) f
/-- and the receive buffer is its sixteen row blocks. -/
theorem r_blocks (c : Dev nD) (f : S2048x128.Idx → Elt F .bf16) : bufPts c cc0_scratch3 f = bigSep Finset.univ fun j : Dev nD => rPts c j f :=
  cut (ℓ := (c : Thread nD τ).loc cc0_scratch3) (fun j : Dev nD => (rBlk j).view.set) (fun i : S2048x128.Idx => (i 0).val / 128)
    (fun b i => mem_rBlk b i) (fun i => by have h : (i 0).val < 2048 := (i 0).isLt; show _ < 16; omega) f

/-- One device's resource taken out, the others weakened. -/
theorem apart (k : Dev nD) (A B : Dev nD → sProp 𝕄) (p : Dev nD → Prop) [DecidablePred p] (hp : ∀ d, p d ↔ d = k) (hAB : ∀ d, A d ⊢ B d) :
    bigSep Finset.univ A ⊢ iprop(A k ∗ bigSep Finset.univ fun d => if p d then iprop(emp) else B d) := by
  rw [bigSep_univ_split k, bigSep_univ_split k (Φ := fun d => if p d then iprop(emp) else B d), if_pos ((hp k).mpr rfl)]
  change iprop(A k ∗ bigSep (Finset.univ.erase k) A) ⊢ iprop(A k ∗ (iprop(emp) ∗ bigSep (Finset.univ.erase k) fun d => if p d then iprop(emp) else B d))
  have hm : bigSep (Finset.univ.erase k) A ⊢ bigSep (Finset.univ.erase k) fun d => if p d then iprop(emp) else B d :=
    bigSep_mono fun d hd => by
      rw [if_neg fun h => (Finset.mem_erase.mp hd).1 ((hp d).mp h)]
      exact hAB d
  iintro ⟨H, HR⟩
  isplitl [H]; · iexact H
  isplitr; · iempintro
  iapply hm; iexact HR

/-- The zeroth device after `c` is `c`. -/
theorem fwd_zero (c : Dev nD) : fwd c ⟨0, by decide⟩ = c := by
  have hc : c.val < 16 := c.isLt
  apply Fin.ext; simp only [fwd]; omega

/-- The receive buffer as a device starts with it: the own block, and the others by distance. -/
theorem r_start (c : Dev nD) (f : S2048x128.Idx → Elt F .bf16) : bufPts c cc0_scratch3 f
    ⊢ iprop((∃ f, rPts (F := F) c c f) ∗ bigSep Finset.univ fun d : Dev nD => if d.val = 0 then iprop(emp) else iprop(∃ f, rPts (F := F) c (fwd c d) f)) := by
  have e : bufPts c cc0_scratch3 f = bigSep Finset.univ fun d : Dev nD => rPts c (fwd c d) f :=
    (r_blocks c f).trans (bigSep_univ_equiv (fwdE c) _)
  have h := apart ⟨0, by decide⟩ (fun d : Dev nD => rPts c (fwd c d) f) (fun d => iprop(∃ f, rPts (F := F) c (fwd c d) f)) (fun d => d.val = 0)
    (fun d => ⟨fun h => Fin.ext h, fun h => by rw [h]⟩) fun d => by
      iintro H
      iexists f; iexact H
  rw [e]
  refine h.trans ?_
  dsimp only
  rw [fwd_zero]
  iintro ⟨H, HR⟩
  isplitl [H]
  · iexists f; iexact H
  iexact HR

/-! ## What all devices owe -/

/-- Two semaphores are the same when the devices and the places are. -/
theorem cell_iff {a b : Dev nD} {s t : SemLoc sig} : kcell (a, s) = kcell (b, t) ↔ a = b ∧ s = t :=
  ⟨fun h => ⟨congrArg (fun g : GSem nD τ sig => g.1.1) h, congrArg Prod.snd h⟩, fun ⟨h, h'⟩ => by rw [h, h']⟩
/-- Different places are different semaphores. -/
theorem kcell_injective : Function.Injective (kcell : Dev nD × SemLoc sig → GSem nD τ sig) := fun _ _ h =>
  Prod.ext (cell_iff.mp h).1 (cell_iff.mp h).2

/-- Receive semaphores of different devices differ. -/
theorem recv_inj {j k : Dev nD} (h : SemLoc.dma (recvS j) = SemLoc.dma (recvS k)) : j = k := by
  have e := congrArg kindOf h
  rw [kind_recv, kind_recv] at e
  exact Kind.recv.inj e
/-- Ready semaphores of different devices differ. -/
theorem ready_inj {j k : Dev nD} (h : SemLoc.reg (readyS j) = SemLoc.reg (readyS k)) : j = k := by
  have e := congrArg kindOf h
  rw [kind_ready, kind_ready] at e
  exact Kind.ready.inj e
/-- A semaphore for signals is none for copies. -/
theorem reg_ne_dma (s : Sem sig) (t : DmaSem sig) : SemLoc.reg s ≠ SemLoc.dma t := fun h => by cases h
/-- A ready semaphore isn't the barrier. -/
theorem ready_ne_bar (j : Dev nD) : SemLoc.reg (readyS j) ≠ SemLoc.reg barS := fun h => by
  have e := congrArg kindOf h
  rw [kind_ready, kind_bar] at e
  exact Kind.noConfusion e

/-- A debt to one semaphore, read at any semaphore. -/
theorem tally_at (g g' : GSem nD τ sig) (k : ℕ) : tallyAt g () k g' () = if g' = g then k else 0 := by
  rw [tallyAt_apply]; simp only [and_true]

/-- A sum of debts, read at one semaphore. -/
theorem sum_at {ι : Type} (s : Finset ι) (f : ι → CellTallies nD τ sig Unit) (g : GSem nD τ sig) : (∑ i ∈ s, f i) g () = ∑ i ∈ s, f i g () := by
  rw [Finset.sum_apply, Finsupp.finset_sum_apply]

/-- Device `d` owes receive semaphore `j` of device `c` one block if `d` is `j`, and nothing for itself. -/
theorem recvRem_recv (d c j : Dev nD) : recvRem d 0 (recvCell c j) () = if d = j then (if c = j then 0 else Nb) else 0 := by
  unfold recvRem
  rw [sum_at]
  by_cases h : d = j
  · subst h
    rw [if_pos rfl]
    by_cases hc : c = d
    · rw [if_pos hc]
      refine Finset.sum_eq_zero fun j' hj' => ?_
      rw [tally_at, if_neg fun e => (Finset.mem_filter.mp hj').2.2 ((cell_iff.mp e).1.symm.trans hc)]
    · rw [if_neg hc, Finset.sum_eq_single c, tally_at, if_pos rfl]
      · intro j' _ hne
        rw [tally_at, if_neg fun e => hne (cell_iff.mp e).1.symm]
      · intro hn
        exact absurd (Finset.mem_filter.mpr ⟨Finset.mem_univ _, Nat.zero_le _, hc⟩) hn
  · rw [if_neg h]
    refine Finset.sum_eq_zero fun j' _ => ?_
    rw [tally_at, if_neg fun e => h (recv_inj (cell_iff.mp e).2).symm]
/-- The debts to receive semaphores owe nothing to a semaphore for signals. -/
theorem recvRem_reg (d c : Dev nD) (s : Sem sig) : recvRem d 0 (kcell (c, .reg s)) () = 0 := by
  by_contra h
  obtain ⟨j, e⟩ := recvRem_pos (Nat.pos_of_ne_zero h)
  exact reg_ne_dma _ _ (cell_iff.mp e).2
/-- Device `d` owes ready semaphore `j` of device `c` one signal if `d` is `j`, and nothing for itself. -/
theorem sigRem_ready (d c j : Dev nD) : sigRem d 1 (readyCell c j) () = if d = j then (if c = j then 0 else 1) else 0 := by
  unfold sigRem
  rw [sum_at]
  by_cases h : d = j
  · subst h
    rw [if_pos rfl]
    by_cases hc : c = d
    · rw [if_pos hc]
      refine Finset.sum_eq_zero fun k hk => ?_
      have hk' := (Finset.mem_filter.mp hk).2
      rw [tally_at, if_neg fun e => fwd_ne d k (by omega) ((cell_iff.mp e).1.symm.trans hc)]
    · rw [if_neg hc, Finset.sum_eq_single (bwd c d), tally_at, fwd_bwd, if_pos rfl]
      · intro k _ hne
        rw [tally_at, if_neg fun e => hne (by rw [(cell_iff.mp e).1, bwd_fwd])]
      · intro hn
        refine absurd (Finset.mem_filter.mpr ⟨Finset.mem_univ (bwd c d), show 1 ≤ (bwd c d).val from Nat.pos_of_ne_zero fun h0 : (bwd c d).val = 0 => hc ?_⟩) hn
        have e := fwd_bwd d c
        have hd : d.val < 16 := d.isLt
        rw [← e]; apply Fin.ext; simp only [fwd] at e ⊢; omega
  · rw [if_neg h]
    refine Finset.sum_eq_zero fun k _ => ?_
    rw [tally_at, if_neg fun e => h (ready_inj (cell_iff.mp e).2).symm]
/-- The debts to ready semaphores owe nothing to any other semaphore. -/
theorem sigRem_ne (d c : Dev nD) (s : SemLoc sig) (hs : ∀ j, s ≠ .reg (readyS j)) : sigRem d 1 (kcell (c, s)) () = 0 := by
  by_contra h
  obtain ⟨j, -, hj⟩ := sum_tally_pos (Nat.pos_of_ne_zero h)
  exact hs d (cell_iff.mp (tallyAt_pos hj)).2

/-- What a device owes at first, read at one semaphore. -/
theorem O₀_at (d : Dev nD) (g : GSem nD τ sig) : O₀ d g ()
    = recvRem d 0 g () + (if g = barCell (prv d) then 1 else 0) + (if g = barCell (nxt d) then 1 else 0) + sigRem d 1 g () := by
  unfold O₀ barRem' barRem
  rw [Pi.add_apply, Finsupp.add_apply, Pi.add_apply, Finsupp.add_apply, Pi.add_apply, Finsupp.add_apply, tally_at, tally_at]

/-- All devices together owe a receive semaphore one block, but nothing to a device's own. -/
theorem owed_recv (c j : Dev nD) : ∑ d, O₀ d (recvCell c j) () = if c = j then 0 else Nb := by
  have e : ∀ d, O₀ d (recvCell c j) () = if d = j then (if c = j then 0 else Nb) else 0 := fun d => by
    rw [O₀_at, recvRem_recv, if_neg fun e => reg_ne_dma _ _ (cell_iff.mp e).2.symm, if_neg fun e => reg_ne_dma _ _ (cell_iff.mp e).2.symm,
      sigRem_ne d c _ fun j e => reg_ne_dma _ _ e.symm]; rfl
  rw [Finset.sum_congr rfl fun d _ => e d, Finset.sum_ite_eq' Finset.univ j, if_pos (Finset.mem_univ _)]
/-- All devices together owe a ready semaphore one signal, but nothing to a device's own. -/
theorem owed_ready (c j : Dev nD) : ∑ d, O₀ d (readyCell c j) () = if c = j then 0 else 1 := by
  have e : ∀ d, O₀ d (readyCell c j) () = if d = j then (if c = j then 0 else 1) else 0 := fun d => by
    rw [O₀_at, recvRem_reg, if_neg fun e => ready_ne_bar j (cell_iff.mp e).2, if_neg fun e => ready_ne_bar j (cell_iff.mp e).2, sigRem_ready]
    exact Nat.zero_add _
  rw [Finset.sum_congr rfl fun d _ => e d, Finset.sum_ite_eq' Finset.univ j, if_pos (Finset.mem_univ _)]
/-- All devices together owe a barrier two signals. -/
theorem owed_bar (c : Dev nD) : ∑ d, O₀ d (barCell c) () = 2 := by
  have e : ∀ d, O₀ d (barCell c) () = (if d = nxt c then 1 else 0) + (if d = prv c then 1 else 0) := fun d => by
    have e1 : barCell c = barCell (prv d) ↔ d = nxt c := ⟨fun h => by rw [(cell_iff.mp h).1]; exact (fwd_bwd' d dOne).symm, fun h => by rw [h]; exact (congrArg barCell (bwd_fwd' c dOne)).symm⟩
    have e2 : barCell c = barCell (nxt d) ↔ d = prv c := ⟨fun h => by rw [(cell_iff.mp h).1]; exact (bwd_fwd' d dOne).symm, fun h => by rw [h]; exact (congrArg barCell (fwd_bwd' c dOne)).symm⟩
    rw [O₀_at, recvRem_reg, sigRem_ne d c _ fun j h => ready_ne_bar j h.symm, Nat.zero_add, Nat.add_zero, if_congr e1 rfl rfl, if_congr e2 rfl rfl]
  rw [Finset.sum_congr rfl fun d _ => e d, Finset.sum_add_distrib, Finset.sum_ite_eq' Finset.univ (nxt c) fun _ => 1,
    Finset.sum_ite_eq' Finset.univ (prv c) fun _ => 1, if_pos (Finset.mem_univ _), if_pos (Finset.mem_univ _)]

/-- What the launch credits a semaphore with is what all devices together owe it. -/
theorem launch_at (c : Dev nD) (s : SemLoc sig) (k : ℕ) (h : ∑ d, O₀ d (kcell (c, s)) () = k) :
    tallyOn (kcell (c, s)) (launchCredit (Pipeline.owing O₀) 0 (kcell (c, s))) = (tallyAt (kcell (c, s)) () k : CellTallies nD τ sig Unit) := by
  unfold tallyAt; refine congrArg _ (Finsupp.ext fun u => ?_); cases u
  rw [Pipeline.launchCredit_owing, Finsupp.single_eq_same, h]

/-- Anything may be given up. -/
theorem drop (P : sProp 𝕄) : P ⊢ iprop(emp) := by iintro -; iempintro

/-- The credits of device `c`: two for the barrier; from every other device one for its ready semaphore and one block for its receive
    semaphore. -/
theorem creds (c : Dev nD) : (Pipeline.launchCred O₀ c : sProp 𝕄) ⊢ iprop(cred (tallyAt (barCell c) () 2)
    ∗ (bigSep Finset.univ fun j : Dev nD => if j = c then iprop(emp) else cred (tallyAt (readyCell c j) () 1))
    ∗ bigSep Finset.univ fun j : Dev nD => if j = c then iprop(emp) else cred (tallyAt (recvCell c j) () Nb)) := by
  unfold Pipeline.launchCred
  rw [sems_split]
  iintro ⟨HB, HR, -, -, HV⟩
  isplitl [HB]
  · ihave H := (Entails.of_eq (congrArg (fun t => (cred t : sProp 𝕄)) (launch_at c (.reg barS) 2 (owed_bar c)))) $$ HB
    iexact H
  isplitl [HR]
  · have h : (bigSep Finset.univ fun j : Dev nD => (cred (tallyOn (readyCell c j) (launchCredit (Pipeline.owing O₀) 0 (readyCell c j))) : sProp 𝕄))
        ⊢ bigSep Finset.univ fun j : Dev nD => if j = c then iprop(emp) else cred (tallyAt (readyCell c j) () 1) := bigSep_mono fun j _ => by
      by_cases hj : j = c
      · rw [if_pos hj]; exact drop _
      · rw [if_neg hj, launch_at c (.reg (readyS j)) 1 (by rw [owed_ready, if_neg fun h => hj h.symm])]; exact BI.Entails.refl _
    iapply h; iexact HR
  · have h : (bigSep Finset.univ fun j : Dev nD => (cred (tallyOn (recvCell c j) (launchCredit (Pipeline.owing O₀) 0 (recvCell c j))) : sProp 𝕄))
        ⊢ bigSep Finset.univ fun j : Dev nD => if j = c then iprop(emp) else cred (tallyAt (recvCell c j) () Nb) := bigSep_mono fun j _ => by
      by_cases hj : j = c
      · rw [if_pos hj]; exact drop _
      · rw [if_neg hj, launch_at c (.dma (recvS j)) Nb (by rw [owed_recv, if_neg fun h => hj h.symm])]; exact BI.Entails.refl _
    iapply h; iexact HV

end Cert.Exchange
end
-- ==== Proof.Ghost.lean ====
/-
The ghost state at launch: every semaphore's protocol opened, the rights to pay dealt to the devices that pay, and from these,
the credits and the buffers, what a device starts with.
-/
module

public import proofs.«01_k».proof.Proof.Ledger

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- Every semaphore of every device. -/
def exCells : Finset (GSem nD τ sig) := Finset.univ.map ⟨kcell, kcell_injective⟩

/-- The right to pay, as minted: two for each semaphore. -/
abbrev tokOf (p : (Dev nD × SemLoc sig) × Bool) : GSem nD τ sig × ℕ × Bool := (kcell p.1, 0, p.2)
/-- Different rights to pay are told apart. -/
theorem tokOf_injective : Function.Injective tokOf := fun p q h =>
  Prod.ext (kcell_injective (congrArg (fun x : GSem nD τ sig × ℕ × Bool => x.1) h)) (congrArg (fun x : GSem nD τ sig × ℕ × Bool => x.2.2) h)
/-- All rights to pay, of every semaphore of every device. -/
def exToks : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf exCells exToks)

/-- The rights to pay device `c`'s own semaphores, those marked `b`. -/
def toks (c : Dev nD) (b : Bool) : sProp 𝕄 := bigSep Finset.univ fun s : SemLoc sig => dutyTok ER (kcell (c, s)) 0 b
/-- The positions of device `c`'s semaphores. -/
def posAll (c : Dev nD) : sProp 𝕄 := bigSep Finset.univ fun s : SemLoc sig => atPos ER (kcell (c, s)) 0 ∅ 0
/-- What the launch element gives device `c`. -/
def G (c : Dev nD) : sProp 𝕄 :=
  iprop((bigSep Finset.univ fun s : SemLoc sig => roundState ER (exRd m) (kcell (c, s)) 0)
    ∗ (posAll c ∗ bigSep Finset.univ fun s : SemLoc sig => reached ER (kcell (c, s)) 0) ∗ toks c false ∗ toks c true)

/-- The ghost state at launch, shared out: each device gets that of its own semaphores. -/
theorem fund_all : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun s : SemLoc sig => Φ (kcell (c, s)) := by
    unfold exCells; rw [bigSep_map, bigSep_univ_prod]; rfl
  have hT : bigSep exToks (fun x => (dutyTok ER x.1 x.2.1 x.2.2 : sProp 𝕄)) = bigSep Finset.univ fun c : Dev nD => iprop(toks c false ∗ toks c true) := by
    unfold exToks; rw [bigSep_map, bigSep_univ_prod, bigSep_univ_prod]
    refine bigSep_congr fun c _ => ?_
    unfold toks
    rw [← bigSep_sep']
    refine bigSep_congr fun s _ => ?_
    rw [bigSep_univ_eq_bigSepL [false, true] (by decide) (by decide), bigSepL_cons_cons, bigSepL_singleton]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · unfold posAll; iexact Hat'
    · iexact Hr'
  iexact Htok'

/-! ## The semaphores, scoped and not -/

/-- The semaphores that belong to the call. -/
abbrev osem : {s : SemLoc sig // s.isScoped .tc = true} → SemLoc sig := Subtype.val
/-- They are different from each other and from those of the windows, of which there are none. -/
theorem ownSemFacts : Pipeline.OwnSemFacts cfg0.spec osem := ⟨fun k => k.2, Subtype.val_injective, fun k w => w.elim0⟩

/-- All semaphores of a device are those of the call and those that outlive it. -/
theorem sems_all (c : Dev nD) :
    iprop(Pipeline.ownSems0 (Ix := Unit) (Name := ℕ) (U := UU) (Lvl := ℕ) (Val := Elt F) (τ := τ) osem c ∗ unscopedSems0 c)
      = (bigSep Finset.univ fun s : SemLoc sig => semVal (kcell (c, s)) 0 : sProp 𝕄) := by
  unfold Pipeline.ownSems0 unscopedSems0
  rw [bigSep_filter_split Finset.univ (fun s : SemLoc sig => s.isScoped .tc = true)]
  have e := bigSep_subtype (M := 𝕄) (fun s : SemLoc sig => s.isScoped .tc = true) (fun s => semVal (kcell (c, s)) 0)
  exact congrArg (fun X => BI.sep X (bigSep (Finset.univ.filter fun sm : SemLoc sig => ¬ sm.isScoped .tc) fun sm => (semVal (kcell (c, sm)) 0 : sProp 𝕄))) e

/-- Opening every protocol of a device. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (exRd m) κ (kcell (c, s))))
          ∗ (posAll c ∗ bigSep Finset.univ fun s : SemLoc sig => reached ER (kcell (c, s)) 0) ∗ toks c false ∗ toks c true) := by
  unfold G
  iintro ⟨Hos, Hus, Hst, Hat, Htok⟩
  ihave Hv := (Entails.of_eq (sems_all (F := F) c)) $$ [Hos Hus]
  · isplitl [Hos] <;> iassumption
  imod (show iprop((bigSep Finset.univ fun s : SemLoc sig => semVal (kcell (c, s)) 0) ∗ bigSep Finset.univ fun s : SemLoc sig => roundState ER (exRd m) (kcell (c, s)) 0)
      ⊢ (|={Set.univ}=> bigSep Finset.univ fun s : SemLoc sig => iprop(∃ κ : ℕ, cellInv ER (exRd m) κ (kcell (c, s))) : sProp 𝕄) from by
        rw [← bigSep_sep']
        exact (bigSep_mono fun s _ => (Rounds.body_intro ER (exRd m) (kcell (c, s))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the rights to pay -/

/-- The rights to pay that device `c` uses. -/
def payToks (c : Dev nD) : sProp 𝕄 :=
  iprop((dutyTok ER (barCell (nxt c)) 0 false ∗ dutyTok ER (barCell (prv c)) 0 true)
    ∗ (bigSep Finset.univ fun d : Dev nD => dutyTok ER (readyCell (fwd c d) c) 0 false)
    ∗ (bigSep Finset.univ fun i : Fin 4 => dutyTok ER (inCell c i) 0 false)
    ∗ (bigSep Finset.univ fun j : Dev nD => dutyTok ER (sendCell c j) 0 false)
    ∗ bigSep Finset.univ fun j : Dev nD => dutyTok ER (recvCell j c) 0 false)

/-- Every right handed from the device whose semaphore it is to the device that pays. -/
theorem toks_around : iprop((bigSep Finset.univ fun c : Dev nD => toks (F := F) c false) ∗ bigSep Finset.univ fun c : Dev nD => toks (F := F) c true)
    ⊢ bigSep Finset.univ fun c : Dev nD => (payToks c : sProp 𝕄) := by
  have e (b : Bool) : (bigSep Finset.univ fun c : Dev nD => toks (F := F) c b)
      = iprop((bigSep Finset.univ fun c : Dev nD => dutyTok ER (barCell c) 0 b)
        ∗ (bigSep Finset.univ fun c : Dev nD => bigSep Finset.univ fun j : Dev nD => dutyTok ER (readyCell c j) 0 b)
        ∗ (bigSep Finset.univ fun c : Dev nD => bigSep Finset.univ fun i : Fin 4 => dutyTok ER (inCell c i) 0 b)
        ∗ (bigSep Finset.univ fun c : Dev nD => bigSep Finset.univ fun j : Dev nD => dutyTok ER (sendCell c j) 0 b)
        ∗ bigSep Finset.univ fun c : Dev nD => bigSep Finset.univ fun j : Dev nD => dutyTok ER (recvCell c j) 0 b) := by
    rw [← bigSep_sep', ← bigSep_sep', ← bigSep_sep', ← bigSep_sep']
    refine bigSep_congr fun c _ => ?_
    unfold toks
    exact sems_split _
  have eb : (bigSep Finset.univ fun c : Dev nD => (dutyTok ER (barCell c) 0 false : sProp 𝕄)) = bigSep Finset.univ fun c : Dev nD => dutyTok ER (barCell (nxt c)) 0 false :=
    bigSep_univ_equiv ringE _
  have eb' : (bigSep Finset.univ fun c : Dev nD => (dutyTok ER (barCell c) 0 true : sProp 𝕄)) = bigSep Finset.univ fun c : Dev nD => dutyTok ER (barCell (prv c)) 0 true :=
    bigSep_univ_equiv ringE.symm _
  have er : (bigSep Finset.univ fun c : Dev nD => bigSep Finset.univ fun j : Dev nD => (dutyTok ER (readyCell c j) 0 false : sProp 𝕄))
      = bigSep Finset.univ fun c : Dev nD => bigSep Finset.univ fun d : Dev nD => dutyTok ER (readyCell (fwd c d) c) 0 false :=
    (bigSep_univ_comm _).trans (bigSep_congr fun c _ => bigSep_univ_equiv (fwdE c) (fun t : Dev nD => (dutyTok ER (readyCell t c) 0 false : sProp 𝕄)))
  have ev : (bigSep Finset.univ fun c : Dev nD => bigSep Finset.univ fun j : Dev nD => (dutyTok ER (recvCell c j) 0 false : sProp 𝕄))
      = bigSep Finset.univ fun c : Dev nD => bigSep Finset.univ fun j : Dev nD => dutyTok ER (recvCell j c) 0 false := bigSep_univ_comm _
  unfold payToks
  rw [e false, e true, eb, eb', er, ev, bigSep_sep', bigSep_sep', bigSep_sep', bigSep_sep', bigSep_sep']
  iintro ⟨⟨HB, HR, HI, HS, HV⟩, HB', -⟩
  isplitl [HB HB']
  · isplitl [HB]; · iexact HB
    iexact HB'
  isplitl [HR]; · iexact HR
  isplitl [HI]; · iexact HI
  isplitl [HS]; · iexact HS
  iexact HV

/-- What every device knows, but for the levels. -/
def recs (K : Dev nD × SemLoc sig → ℕ) : sProp 𝕄 :=
  iprop(bigSep Finset.univ (fun p : Dev nD × SemLoc sig => cellInv ER (exRd m) (K p) (kcell p))
    ∗ bigSep Finset.univ (fun p : Dev nD × SemLoc sig => reached ER (kcell p) 0))
/-- The records may be copied. -/
instance recs_persistent (K : Dev nD × SemLoc sig → ℕ) : BI.Persistent (recs m K) := by unfold recs; infer_instance

/-- What the global step makes of a device's share. -/
def G' (c : Dev nD) : sProp 𝕄 := iprop(∃ K, recs m K ∗ posAll c ∗ payToks c)

/-- The devices' opened semaphores, regrouped: everybody gets all records, and the rights to pay go to those who pay. -/
theorem regroup :
    (bigSep Finset.univ fun c : Dev nD => iprop((bigSep Finset.univ fun s : SemLoc sig => iprop(∃ κ : ℕ, cellInv ER (exRd m) κ (kcell (c, s))))
          ∗ (posAll c ∗ bigSep Finset.univ fun s : SemLoc sig => reached ER (kcell (c, s)) 0) ∗ toks c false ∗ toks c true) : sProp 𝕄)
      ⊢ bigSep Finset.univ (G' m) := by
  rw [bigSep_sep', bigSep_sep', bigSep_sep', bigSep_sep', ← bigSep_univ_prod (fun p : Dev nD × SemLoc sig => iprop(∃ κ : ℕ, cellInv ER (exRd m) κ (kcell p))),
    ← bigSep_univ_prod (fun p : Dev nD × SemLoc sig => (reached ER (kcell p) 0 : sProp 𝕄))]
  iintro ⟨HI, ⟨Hat, #HR⟩, Htok⟩
  ihave HK := (BI.bigSep_exists_pi Finset.univ (fun (p : Dev nD × SemLoc sig) (κ : ℕ) => (cellInv ER (exRd m) κ (kcell p) : sProp 𝕄))) $$ HI
  icases HK with ⟨%K, #HI⟩
  ihave Htk := (toks_around (F := F)) $$ Htok
  iapply (bigSep_with_persistent (R := recs m K) (Φ := fun c : Dev nD => iprop(posAll c ∗ payToks c)) fun c _ => (show iprop(recs m K ∗ (posAll c ∗ payToks c)) ⊢ G' m c from by
    unfold G'
    iintro H
    iexists K
    iexact H))
  isplitr
  · unfold recs; isplitl; · iexact HI
    iexact HR
  · rw [bigSep_sep']
    isplitl [Hat]; · iexact Hat
    iexact Htk

/-- The global step: the semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Exchange
end
-- ==== Proof.Specs.lean ====
/-
Specifications of pieces of the device's program, and how they compose: a step before a piece, one piece after another, a
piece beside resources it does not touch.
-/
module

public import proofs.«01_k».proof.Proof.Phases

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

/-- Run on device `c`, the piece `p` turns `P` into `Q` of its result. -/
def Spec (c : Dev nD) {α : Type} (p : Prog (TpuEff nD τ sig (Elt F) Λ₀ .tc) α) (P : sProp 𝕄) (Q : α → sProp 𝕄) : Prop :=
  ∀ Kt : α → sProp 𝕄, iprop(records m K ∗ P) ⊢ iprop((∀ r, Q r -∗ Kt r) -∗ run c p Kt)

section
variable {m K}

/-- One step, then the rest. -/
theorem Spec.step {c : Dev nD} {α : Type} {p : Prog (TpuEff nD τ sig (Elt F) Λ₀ .tc) α} {A B : sProp 𝕄} {Q : α → sProp 𝕄} {q : Prog (TpuEff nD τ sig (Elt F) Λ₀ .tc) α}
    (h : ∀ Kt : α → sProp 𝕄, iprop(records m K ∗ A) ⊢ iprop((B -∗ run c q Kt) -∗ run c p Kt)) (hq : Spec m K c q B Q) :
    Spec m K c p A Q := by
  intro Kt
  iintro ⟨#HR, HA⟩ Hk
  iapply (h Kt) $$ [HA]
  · isplitr; · iexact HR
    iexact HA
  iintro HB
  iapply (hq Kt) $$ [HB] [Hk]
  · isplitr; · iexact HR
    iexact HB
  · iexact Hk

/-- One step that uses no protocol, then the rest. -/
theorem Spec.step' {c : Dev nD} {α : Type} {p : Prog (TpuEff nD τ sig (Elt F) Λ₀ .tc) α} {A B : sProp 𝕄} {Q : α → sProp 𝕄} {q : Prog (TpuEff nD τ sig (Elt F) Λ₀ .tc) α}
    (h : ∀ Kt : α → sProp 𝕄, A ⊢ iprop((B -∗ run c q Kt) -∗ run c p Kt)) (hq : Spec m K c q B Q) : Spec m K c p A Q :=
  Spec.step (fun Kt => by
    iintro ⟨-, HA⟩ Hk
    iapply (h Kt) $$ HA Hk) hq

/-- One step with a result nothing depends on, then the rest. -/
theorem Spec.stepAll {β : Type} {c : Dev nD} {α : Type} {p : Prog (TpuEff nD τ sig (Elt F) Λ₀ .tc) α} {A B : sProp 𝕄} {Q : α → sProp 𝕄} {q : β → Prog (TpuEff nD τ sig (Elt F) Λ₀ .tc) α}
    (h : ∀ Kt : α → sProp 𝕄, A ⊢ iprop((∀ v, B -∗ run c (q v) Kt) -∗ run c p Kt)) (hq : ∀ v, Spec m K c (q v) B Q) :
    Spec m K c p A Q := by
  intro Kt
  iintro ⟨#HR, HA⟩ Hk
  iapply (h Kt) $$ HA
  iintro %v HB
  iapply (hq v Kt) $$ [HB] [Hk]
  · isplitr; · iexact HR
    iexact HB
  · iexact Hk

/-- The end of a piece. -/
theorem Spec.ret {c : Dev nD} {α : Type} {A : sProp 𝕄} {Q : α → sProp 𝕄} {a : α} (h : A ⊢ Q a) : Spec m K c (.ret a) A Q := by
  intro Kt
  unfold run
  rw [wp_ret]
  iintro ⟨-, HA⟩ Hk
  imodintro
  iapply Hk
  iapply h; iexact HA

/-- Two pieces, one after the other. -/
theorem Spec.bind {β : Type} {c : Dev nD} {α : Type} {p : Prog (TpuEff nD τ sig (Elt F) Λ₀ .tc) α} {A : sProp 𝕄} {Q : α → sProp 𝕄} {q : α → Prog (TpuEff nD τ sig (Elt F) Λ₀ .tc) β} {S : β → sProp 𝕄} (hp : Spec m K c p A Q)
    (hq : ∀ r, Spec m K c (q r) (Q r) S) : Spec m K c (p >>= q) A S := by
  intro Kt
  unfold run
  rw [wp_bind]
  iintro ⟨#HR, HA⟩ Hk
  iapply (hp _) $$ [HA] [Hk]
  · isplitr; · iexact HR
    iexact HA
  · iintro %r HQ
    iapply (hq r Kt) $$ [HQ] [Hk]
    · isplitr; · iexact HR
      iexact HQ
    · iexact Hk

/-- A piece beside resources it does not touch. -/
theorem Spec.frame {c : Dev nD} {α : Type} {p : Prog (TpuEff nD τ sig (Elt F) Λ₀ .tc) α} {A R : sProp 𝕄} {Q : α → sProp 𝕄} (hp : Spec m K c p A Q) : Spec m K c p iprop(A ∗ R) (fun r => iprop(Q r ∗ R)) := by
  intro Kt
  iintro ⟨#HR, HA, HF⟩ Hk
  iapply (hp _) $$ [HA]
  · isplitr; · iexact HR
    iexact HA
  iintro %r HQ
  iapply Hk
  isplitl [HQ]; · iexact HQ
  iexact HF

/-- A piece from more than it needs, to less than it gives. -/
theorem Spec.mono {c : Dev nD} {α : Type} {p : Prog (TpuEff nD τ sig (Elt F) Λ₀ .tc) α} {A P : sProp 𝕄} {Q : α → sProp 𝕄} {Q' : α → sProp 𝕄} (hA : P ⊢ A) (hp : Spec m K c p A Q) (hQ : ∀ r, Q r ⊢ Q' r) : Spec m K c p P Q' := by
  intro Kt
  iintro ⟨#HR, HP⟩ Hk
  iapply (hp _) $$ [HP]
  · isplitr; · iexact HR
    iapply hA; iexact HP
  iintro %r HQ
  iapply Hk
  iapply (hQ r); iexact HQ

/-- A piece may start from anything that gives what it needs. -/
theorem Spec.pre {c : Dev nD} {α : Type} {p : Prog (TpuEff nD τ sig (Elt F) Λ₀ .tc) α} {A P : sProp 𝕄} {Q : α → sProp 𝕄} (hA : P ⊢ A) (hp : Spec m K c p A Q) : Spec m K c p P Q := Spec.mono hA hp fun _ => Entails.rfl

/-- One step that touches only `A`, then the rest. -/
theorem Spec.stepF {c : Dev nD} {α : Type} {p : Prog (TpuEff nD τ sig (Elt F) Λ₀ .tc) α} {A B P R : sProp 𝕄} {Q : α → sProp 𝕄} {q : Prog (TpuEff nD τ sig (Elt F) Λ₀ .tc) α} (hP : P ⊢ iprop(A ∗ R))
    (h : ∀ Kt : α → sProp 𝕄, iprop(records m K ∗ A) ⊢ iprop((B -∗ run c q Kt) -∗ run c p Kt)) (hq : Spec m K c q iprop(B ∗ R) Q) :
    Spec m K c p P Q := by
  intro Kt
  iintro ⟨#HR, HP⟩ Hk
  ihave HP := hP $$ HP
  icases HP with ⟨HA, HF⟩
  iapply (h Kt) $$ [HA]
  · isplitr; · iexact HR
    iexact HA
  iintro HB
  iapply (hq Kt) $$ [HB HF] [Hk]
  · isplitr; · iexact HR
    isplitl [HB] <;> iassumption
  · iexact Hk

/-- The device's own index is read. -/
theorem Spec.deviceId {c : Dev nD} {α : Type} {A : sProp 𝕄} {Q : α → sProp 𝕄} {k : Dev nD → Prog (TpuEff nD τ sig (Elt F) Λ₀ .tc) α}
    (hk : Spec m K c (k c) A Q) : Spec m K c (.op .deviceId k) A Q := by
  intro Kt
  have h := hk Kt
  unfold run at h ⊢
  rw [wp_deviceId]
  exact h

end

/-! ## One block received -/

/-- The credit of a block of the receive buffer does not depend on where it is. -/
theorem Nb_any {off : Fin 2 → Nat} {inb : ∀ a, off a + S128x128.size a ≤ S2048x128.size a} :
    (rM.slice (Rect.unit (s := S2048x128) off S128x128.size inb) (fun _ => rfl) : Memref sig .tc .vmem S128x128 .bf16).view.dmaCredit = Nb := by
  unfold Nb; rfl

/-- The distance of the `r`-th receive, counted from none. -/
abbrev rd (r : Fin 15) : Dev nD := ⟨r.val + 1, by have := r.isLt; show _ < 16; omega⟩

/-- The semaphore of the `d`-th receive is that of the `d`-th device before. -/
theorem off67_eq (c : Dev nD) (r : Fin 15) : k0_off67 c (BitVec.ofNat 32 (r.val + 1)) = ![(bwd c (rd r)).val] := by
  revert c r; decide +kernel
/-- The rows its block lands at, as the wait and as the reads and writes name them. -/
theorem off68_eq (c : Dev nD) (r : Fin 15) : k0_off68 c (BitVec.ofNat 32 (r.val + 1)) = ![128 * (bwd c (rd r)).val, 0] := by
  revert c r; decide +kernel
/-- Where the block from the `r + 1`-th device before lies. -/
theorem off69_eq (c : Dev nD) (r : Fin 15) : k0_off69 c (BitVec.ofNat 32 (r.val + 1)) = ![128 * (bwd c (rd r)).val, 0] := by
  revert c r; decide +kernel

variable {m K}

/-- A block of sixteen-bit numbers as thirty-two-bit ones. -/
def widen (v : S128x128.Idx → Elt F .bf16) : S128x128.Idx → Elt F .f32 :=
  shapeCast S128x128 (extf .f32 (v : FVec F S128x128 .bf16) bitsLt_bf16_f32) shapeCasts_S128x128_S128x128
/-- Widening is entry by entry. -/
theorem widen_at (v : S128x128.Idx → Elt F .bf16) (x : S128x128.Idx) : widen v x = FloatOps.extf .f32 bitsLt_bf16_f32 (v x) := by
  unfold widen
  rw [shapeCast_self]; rfl

/-- A block is read, widened and stored. -/
theorem widen_block {α : Type} {Q : α → sProp 𝕄} {k : PUnit → Prog (TpuEff nD τ sig (Elt F) Λ₀ .tc) α} {c : Dev nD} (d : Dev nD) {n o o' : ℕ}
    (hdn : d.val < n) (hdo : o = d.val) (hdo' : o' = d.val + 1) {off : Fin 2 → Nat} (ho : off = ![128 * (bwd c d).val, 0])
    {offr : Fin 2 → Nat} (hor : offr = ![128 * (bwd c d).val, 0])
    {inb : ∀ a, off a + S128x128.size a ≤ S2048x128.size a} {inbr : ∀ a, offr a + S128x128.size a ≤ S2048x128.size a}
    {hl : (rM : Memref sig .tc .vmem S2048x128 .bf16).view.LoadsAt (Rect.unit (s := S2048x128) offr S128x128.size inbr).toLoadRect}
    {hl' : (oM : Memref sig .tc .vmem S2048x128 .f32).view.LoadsAt (Rect.unit (s := S2048x128) off S128x128.size inb).toLoadRect}
    {pay : (S128x128.Idx → Elt F .bf16) → S128x128.Idx → Elt F .f32} (hpay : pay = widen)
    {hst : ((oM : Memref sig .tc .vmem S2048x128 .f32).access (Rect.unit (s := S2048x128) off S128x128.size inb)).Stores Finset.univ}
    {hm : (Finset.univ : Finset S128x128.Idx) = Finset.univ ∨ ∀ a, (Rect.unit (s := S2048x128) off S128x128.size inb).stride a = 1}
    (hk : Spec m K c (k ⟨⟩) (RcvSt m c n o') Q) :
    Spec m K c (.op (.load rM (Rect.unit (s := S2048x128) offr S128x128.size inbr).toLoadRect hl) fun v =>
      .op (.load oM (Rect.unit (s := S2048x128) off S128x128.size inb).toLoadRect hl') fun _ =>
      .op (.store oM (Rect.unit (s := S2048x128) off S128x128.size inb) (pay v) Finset.univ hst hm) k) (RcvSt m c n o) Q :=
  Spec.step' (fun Kt => step_read m c d n o hdn hor) <|
    Spec.stepAll (fun Kt => step_peek m c n o) fun _ =>
      Spec.step' (fun Kt => step_write m c d n hdo hdo' ho fun x => by rw [hpay]; exact widen_at _ x) hk

/-- The `d`-th block is waited for, read, widened and stored. -/
theorem recv_block {α : Type} {Q : α → sProp 𝕄} {k : PUnit → Prog (TpuEff nD τ sig (Elt F) Λ₀ .tc) α} {c : Dev nD} (d : Dev nD) (hd : d.val ≠ 0) {n n' : ℕ} (hn : n = d.val)
    (hn' : n' = d.val + 1)
    {off : Fin 2 → Nat} (ho : off = ![128 * (bwd c d).val, 0])
    {inb : ∀ a, off a + S128x128.size a ≤ S2048x128.size a}
    {sm : DmaSem sig} (hs : sm = recvS (bwd c d))
    {sp sp' : Space} {s s' : Shape} {e e' : EltTy} {src : Memref sig .tc sp' s' e'} {dst : Memref sig .tc sp s e} {hsrc : src.view.WordExact} {hdst : dst.view.WordExact}
    (hN : dst.view.dmaCredit = Nb)
    {hl : (rM : Memref sig .tc .vmem S2048x128 .bf16).view.LoadsAt (Rect.unit (s := S2048x128) off S128x128.size inb).toLoadRect}
    {hl' : (oM : Memref sig .tc .vmem S2048x128 .f32).view.LoadsAt (Rect.unit (s := S2048x128) off S128x128.size inb).toLoadRect}
    {pay : (S128x128.Idx → Elt F .bf16) → S128x128.Idx → Elt F .f32} (hpay : pay = widen)
    {hst : ((oM : Memref sig .tc .vmem S2048x128 .f32).access (Rect.unit (s := S2048x128) off S128x128.size inb)).Stores Finset.univ}
    {hm : (Finset.univ : Finset S128x128.Idx) = Finset.univ ∨ ∀ a, (Rect.unit (s := S2048x128) off S128x128.size inb).stride a = 1}
    (hk : Spec m K c (k ⟨⟩) (RcvSt m c n' n') Q) :
    Spec m K c (.op (.waitDma2 sm src dst hsrc hdst) fun _ =>
      .op (.load rM (Rect.unit (s := S2048x128) off S128x128.size inb).toLoadRect hl) fun v =>
      .op (.load oM (Rect.unit (s := S2048x128) off S128x128.size inb).toLoadRect hl') fun _ =>
      .op (.store oM (Rect.unit (s := S2048x128) off S128x128.size inb) (pay v) Finset.univ hst hm) k) (RcvSt m c n n) Q := by
  subst hn'
  exact Spec.step (fun Kt => step_recv m K c d hd hn rfl n hs hN) <|
    widen_block d (Nat.lt_succ_self _) hn rfl ho ho hpay hk

end Cert.Exchange
end
-- ==== Proof.Piece2.lean ====
/-
The middle pieces of the device's program: the product, half by half, and its blocks sent.
-/
module

public import proofs.«01_k».proof.Proof.Specs

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m} (K : Dev nD × SemLoc sig → ℕ)

/-- Before the product of half `h`. -/
def HalfPre (m : (ℓ : Loc nD τ sig) → Buf (Elt F) ℓ) (c : Dev nD) (h : Fin 2) (n : ℕ) : sProp 𝕄 :=
  iprop((cred (tallyAt (kcell (c, .dma (wS h))) () Nw) ∗ owing c (recvRem c n) ∗ atPos ER (kcell (c, .dma (wS h))) 0 ∅ 0)
    ∗ bufPts c cc0_scratch0 (XF m c) ∗ (∃ f, yhPts c h f) ∗ sweep (sndA (F := F) c) (sndB m c) n ∗ ownSt m c n)
/-- What stays aside while the blocks of half `h` are sent. -/
def HalfRest (m : (ℓ : Loc nD τ sig) → Buf (Elt F) ℓ) (c : Dev nD) (h : Fin 2) : sProp 𝕄 :=
  iprop(atPos ER (kcell (c, .dma (wS h))) 1 ∅ 0 ∗ bufPts c cc0_scratch0 (XF m c) ∗ wPts c h (WF m c) ∗ whPts c h (WF m c))

variable {K}

/-- A half of `w` is waited for, multiplied by `x`, rounded and stored. -/
theorem half_block {α : Type} {Q : α → sProp 𝕄} {k : PUnit → Prog (TpuEff nD τ sig (Elt F) Λ₀ .tc) α} {c : Dev nD} (h : Fin 2) {n hi : ℕ} (hn : n = 8 * h.val) (hhi : hi = 8 * h.val + 8)
    {off : Fin 2 → Nat} (ho : off = ![0, 1024 * h.val])
    {inb inb' inbL : ∀ a, off a + S2048x1024.size a ≤ S2048x2048.size a} {inbY' : ∀ a, off a + S128x1024.size a ≤ S128x2048.size a}
    {st st' : ∀ a, (Rect.unit (s := S2048x2048) off S2048x1024.size inb).stride a = 1} {sm : DmaSem sig} (hs : sm = wS h)
    {hsrc : (wH.slice (Rect.unit (s := S2048x2048) off S2048x1024.size inb') st').view.WordExact} {hdst : (wM.slice (Rect.unit (s := S2048x2048) off S2048x1024.size inb) st).view.WordExact}
    {inbX : ∀ a, (![0, 0] : Fin 2 → Nat) a + S128x2048.size a ≤ S128x2048.size a}
    {hl₁ : (xM : Memref sig .tc .vmem S128x2048 .f32).view.LoadsAt (Rect.unit (s := S128x2048) ![0, 0] S128x2048.size inbX).toLoadRect}
    {hl₂ : (wM : Memref sig .tc .vmem S2048x2048 .f32).view.LoadsAt (Rect.unit (s := S2048x2048) off S2048x1024.size inbL).toLoadRect}
    {hl₃ : (yM : Memref sig .tc .vmem S128x2048 .bf16).view.LoadsAt (Rect.unit (s := S128x2048) off S128x1024.size inbY').toLoadRect}
    {pay : (S128x2048.Idx → Elt F .f32) → (S2048x1024.Idx → Elt F .f32) → S128x1024.Idx → Elt F .bf16} (hpay : pay = k0_pay1)
    {hst : ((yM : Memref sig .tc .vmem S128x2048 .bf16).access (Rect.unit (s := S128x2048) off S128x1024.size inbY')).Stores Finset.univ}
    {hm : (Finset.univ : Finset S128x1024.Idx) = Finset.univ ∨ ∀ a, (Rect.unit (s := S128x2048) off S128x1024.size inbY').stride a = 1}
    (hk : Spec m K c (k ⟨⟩) iprop(BlkSt m c n hi ∗ HalfRest m c h) Q) :
    Spec m K c (.op (.waitDma2 sm (wH.slice (Rect.unit (s := S2048x2048) off S2048x1024.size inb') st') (wM.slice (Rect.unit (s := S2048x2048) off S2048x1024.size inb) st) hsrc hdst) fun _ =>
      .op (.load xM (Rect.unit (s := S128x2048) ![0, 0] S128x2048.size inbX).toLoadRect hl₁) fun v₁ =>
      .op (.load wM (Rect.unit (s := S2048x2048) off S2048x1024.size inbL).toLoadRect hl₂) fun v₂ =>
      .op (.load yM (Rect.unit (s := S128x2048) off S128x1024.size inbY').toLoadRect hl₃) fun _ =>
      .op (.store yM (Rect.unit (s := S128x2048) off S128x1024.size inbY') (pay v₁ v₂) Finset.univ hst hm) k) (HalfPre m c h n) Q := by
  subst hn hhi
  unfold HalfPre
  refine Spec.stepF Entails.rfl (fun Kt => wait_w m K c h (8 * h.val) ho hs) ?_
  refine Spec.stepF (A := iprop(bufPts c cc0_scratch0 (XF m c) ∗ wPts c h (WF m c) ∗ ∃ f, yhPts c h f))
    (R := iprop(((owing c (recvRem c (8 * h.val)) ∗ sweep (sndA (F := F) c) (sndB m c) (8 * h.val) ∗ ownSt m c (8 * h.val)) ∗ whPts c h (WF m c)) ∗ atPos ER (kcell (c, .dma (wS h))) 1 ∅ 0)) ?_
    (fun Kt => by
      iintro ⟨-, H⟩ Hk
      iapply (step_half m c h ho hpay) $$ H Hk) (Spec.pre ?_ hk)
  · iintro ⟨⟨HO, HA, HW, HH⟩, HX, HY, HS, HOwn⟩
    isplitl [HX HW HY]
    · isplitl [HX]; · iexact HX
      isplitl [HW]; · iexact HW
      iexact HY
    isplitr [HA]
    · isplitr [HH]
      · isplitl [HO]; · iexact HO
        isplitl [HS]; · iexact HS
        iexact HOwn
      · iexact HH
    · iexact HA
  · unfold BlkSt SendSt HalfRest
    iintro ⟨⟨HX, HW, HY⟩, ⟨HS, HH⟩, HA⟩
    isplitl [HS HY]
    · isplitl [HS]; · iexact HS
      iexact HY
    isplitl [HA]; · iexact HA
    isplitl [HX]; · iexact HX
    isplitl [HW]; · iexact HW
    iexact HH

variable (K)

set_option maxHeartbeats 2000000 in
/-- The first half of the product, and its first three blocks kept or sent. -/
theorem spec9 (c : Dev nD) (v) :
    Spec m K c (k0_part9 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v) (HalfPre m c 0 0)
      (fun _ => iprop(BlkSt m c 3 8 ∗ HalfRest m c 0)) := by
  rw [k0_part9_eq_skeleton]
  unfold k0_part9_skel
  simp -zeta -zetaHave only [semSignalWord, semWaitWord, Prog.lift, Prog.bind_op, Prog.bind_ret, Prog.pure_eq_ret]
  refine half_block 0 rfl rfl rfl (inS_eq _ 1 rfl) rfl ?_
  refine Spec.frame (Q := fun _ => BlkSt m c 3 8) ?_
  extract_lets
  refine Spec.step' (fun Kt => step_own m c ⟨0, by decide⟩ 8 (by decide) rfl (cond := k0_cond1 c) (by revert c; decide +kernel) (k0_off2_eq c) (k0_off3_eq c) (fun v => shapeCast_self v _)) ?_
  refine Spec.step (fun Kt => step_put m K c ⟨0, by decide⟩ 8 (by decide) rfl (cond := k0_cond2 c) (by revert c; decide +kernel) (fun _ => Fin.ext k0_dev18_eq)
    (k0_off5_eq c) rfl (fun _ => readyS_eq _ _ rfl) rfl (fun _ => sendS_eq _ _ rfl) (fun h => recvS_eq _ c (k0_off4_eq c))) ?_
  refine Spec.step' (fun Kt => step_own m c ⟨1, by decide⟩ 8 (by decide) rfl (cond := k0_cond3 c) (by revert c; decide +kernel) (k0_off6_eq c) (k0_off7_eq c) (fun v => shapeCast_self v _)) ?_
  refine Spec.step (fun Kt => step_put m K c ⟨1, by decide⟩ 8 (by decide) rfl (cond := k0_cond4 c) (by revert c; decide +kernel) (fun _ => Fin.ext k0_dev19_eq)
    (k0_off9_eq c) rfl (fun _ => readyS_eq _ _ rfl) rfl (fun _ => sendS_eq _ _ rfl) (fun h => recvS_eq _ c (k0_off8_eq c))) ?_
  refine Spec.step' (fun Kt => step_own m c ⟨2, by decide⟩ 8 (by decide) rfl (cond := k0_cond5 c) (by revert c; decide +kernel) (k0_off10_eq c) (k0_off11_eq c) (fun v => shapeCast_self v _)) ?_
  refine Spec.step (fun Kt => step_put m K c ⟨2, by decide⟩ 8 (by decide) rfl (cond := k0_cond6 c) (by revert c; decide +kernel) (fun _ => Fin.ext k0_dev20_eq)
    (k0_off13_eq c) rfl (fun _ => readyS_eq _ _ rfl) rfl (fun _ => sendS_eq _ _ rfl) (fun h => recvS_eq _ c (k0_off12_eq c))) ?_
  exact Spec.ret Entails.rfl

set_option maxHeartbeats 2000000 in
/-- The other five blocks of the first half. -/
theorem spec10 (c : Dev nD) (v a) :
    Spec m K c (k0_part10 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (BlkSt m c 3 8)
      (fun _ => BlkSt m c 8 8) := by
  rw [k0_part10_eq_skeleton]
  unfold k0_part10_skel
  simp -zeta -zetaHave only [semSignalWord, semWaitWord, Prog.lift, Prog.bind_op, Prog.bind_ret, Prog.pure_eq_ret]
  extract_lets
  refine Spec.step' (fun Kt => step_own m c ⟨3, by decide⟩ 8 (by decide) rfl (cond := k0_cond7 c) (by revert c; decide +kernel) (k0_off14_eq c) (k0_off15_eq c) (fun v => shapeCast_self v _)) ?_
  refine Spec.step (fun Kt => step_put m K c ⟨3, by decide⟩ 8 (by decide) rfl (cond := k0_cond8 c) (by revert c; decide +kernel) (fun _ => Fin.ext k0_dev21_eq)
    (k0_off17_eq c) rfl (fun _ => readyS_eq _ _ rfl) rfl (fun _ => sendS_eq _ _ rfl) (fun h => recvS_eq _ c (k0_off16_eq c))) ?_
  refine Spec.step' (fun Kt => step_own m c ⟨4, by decide⟩ 8 (by decide) rfl (cond := k0_cond9 c) (by revert c; decide +kernel) (k0_off18_eq c) (k0_off19_eq c) (fun v => shapeCast_self v _)) ?_
  refine Spec.step (fun Kt => step_put m K c ⟨4, by decide⟩ 8 (by decide) rfl (cond := k0_cond10 c) (by revert c; decide +kernel) (fun _ => Fin.ext k0_dev22_eq)
    (k0_off21_eq c) rfl (fun _ => readyS_eq _ _ rfl) rfl (fun _ => sendS_eq _ _ rfl) (fun h => recvS_eq _ c (k0_off20_eq c))) ?_
  refine Spec.step' (fun Kt => step_own m c ⟨5, by decide⟩ 8 (by decide) rfl (cond := k0_cond11 c) (by revert c; decide +kernel) (k0_off22_eq c) (k0_off23_eq c) (fun v => shapeCast_self v _)) ?_
  refine Spec.step (fun Kt => step_put m K c ⟨5, by decide⟩ 8 (by decide) rfl (cond := k0_cond12 c) (by revert c; decide +kernel) (fun _ => Fin.ext k0_dev23_eq)
    (k0_off25_eq c) rfl (fun _ => readyS_eq _ _ rfl) rfl (fun _ => sendS_eq _ _ rfl) (fun h => recvS_eq _ c (k0_off24_eq c))) ?_
  refine Spec.step' (fun Kt => step_own m c ⟨6, by decide⟩ 8 (by decide) rfl (cond := k0_cond13 c) (by revert c; decide +kernel) (k0_off26_eq c) (k0_off27_eq c) (fun v => shapeCast_self v _)) ?_
  refine Spec.step (fun Kt => step_put m K c ⟨6, by decide⟩ 8 (by decide) rfl (cond := k0_cond14 c) (by revert c; decide +kernel) (fun _ => Fin.ext k0_dev24_eq)
    (k0_off29_eq c) rfl (fun _ => readyS_eq _ _ rfl) rfl (fun _ => sendS_eq _ _ rfl) (fun h => recvS_eq _ c (k0_off28_eq c))) ?_
  refine Spec.step' (fun Kt => step_own m c ⟨7, by decide⟩ 8 (by decide) rfl (cond := k0_cond15 c) (by revert c; decide +kernel) (k0_off30_eq c) (k0_off31_eq c) (fun v => shapeCast_self v _)) ?_
  refine Spec.step (fun Kt => step_put m K c ⟨7, by decide⟩ 8 (by decide) rfl (cond := k0_cond16 c) (by revert c; decide +kernel) (fun _ => Fin.ext k0_dev25_eq)
    (k0_off33_eq c) rfl (fun _ => readyS_eq _ _ rfl) rfl (fun _ => sendS_eq _ _ rfl) (fun h => recvS_eq _ c (k0_off32_eq c))) ?_
  exact Spec.ret Entails.rfl

set_option maxHeartbeats 2000000 in
/-- The second half of the product, and its first three blocks kept or sent. -/
theorem spec11 (c : Dev nD) (v) :
    Spec m K c (k0_part11 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v) (HalfPre m c 1 8)
      (fun _ => iprop(BlkSt m c 11 16 ∗ HalfRest m c 1)) := by
  rw [k0_part11_eq_skeleton]
  unfold k0_part11_skel
  simp -zeta -zetaHave only [semSignalWord, semWaitWord, Prog.lift, Prog.bind_op, Prog.bind_ret, Prog.pure_eq_ret]
  refine half_block 1 rfl rfl rfl (inS_eq _ 2 rfl) rfl ?_
  refine Spec.frame (Q := fun _ => BlkSt m c 11 16) ?_
  extract_lets
  refine Spec.step' (fun Kt => step_own m c ⟨8, by decide⟩ 16 (by decide) rfl (cond := k0_cond17 c) (by revert c; decide +kernel) (k0_off34_eq c) (k0_off35_eq c) (fun v => shapeCast_self v _)) ?_
  refine Spec.step (fun Kt => step_put m K c ⟨8, by decide⟩ 16 (by decide) rfl (cond := k0_cond18 c) (by revert c; decide +kernel) (fun _ => Fin.ext k0_dev26_eq)
    (k0_off37_eq c) rfl (fun _ => readyS_eq _ _ rfl) rfl (fun _ => sendS_eq _ _ rfl) (fun h => recvS_eq _ c (k0_off36_eq c))) ?_
  refine Spec.step' (fun Kt => step_own m c ⟨9, by decide⟩ 16 (by decide) rfl (cond := k0_cond19 c) (by revert c; decide +kernel) (k0_off38_eq c) (k0_off39_eq c) (fun v => shapeCast_self v _)) ?_
  refine Spec.step (fun Kt => step_put m K c ⟨9, by decide⟩ 16 (by decide) rfl (cond := k0_cond20 c) (by revert c; decide +kernel) (fun _ => Fin.ext k0_dev27_eq)
    (k0_off41_eq c) rfl (fun _ => readyS_eq _ _ rfl) rfl (fun _ => sendS_eq _ _ rfl) (fun h => recvS_eq _ c (k0_off40_eq c))) ?_
  refine Spec.step' (fun Kt => step_own m c ⟨10, by decide⟩ 16 (by decide) rfl (cond := k0_cond21 c) (by revert c; decide +kernel) (k0_off42_eq c) (k0_off43_eq c) (fun v => shapeCast_self v _)) ?_
  refine Spec.step (fun Kt => step_put m K c ⟨10, by decide⟩ 16 (by decide) rfl (cond := k0_cond22 c) (by revert c; decide +kernel) (fun _ => Fin.ext k0_dev28_eq)
    (k0_off45_eq c) rfl (fun _ => readyS_eq _ _ rfl) rfl (fun _ => sendS_eq _ _ rfl) (fun h => recvS_eq _ c (k0_off44_eq c))) ?_
  exact Spec.ret Entails.rfl

set_option maxHeartbeats 2000000 in
/-- The other five blocks of the second half. -/
theorem spec12 (c : Dev nD) (v a) :
    Spec m K c (k0_part12 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (BlkSt m c 11 16)
      (fun _ => BlkSt m c 16 16) := by
  rw [k0_part12_eq_skeleton]
  unfold k0_part12_skel
  simp -zeta -zetaHave only [semSignalWord, semWaitWord, Prog.lift, Prog.bind_op, Prog.bind_ret, Prog.pure_eq_ret]
  extract_lets
  refine Spec.step' (fun Kt => step_own m c ⟨11, by decide⟩ 16 (by decide) rfl (cond := k0_cond23 c) (by revert c; decide +kernel) (k0_off46_eq c) (k0_off47_eq c) (fun v => shapeCast_self v _)) ?_
  refine Spec.step (fun Kt => step_put m K c ⟨11, by decide⟩ 16 (by decide) rfl (cond := k0_cond24 c) (by revert c; decide +kernel) (fun _ => Fin.ext k0_dev29_eq)
    (k0_off49_eq c) rfl (fun _ => readyS_eq _ _ rfl) rfl (fun _ => sendS_eq _ _ rfl) (fun h => recvS_eq _ c (k0_off48_eq c))) ?_
  refine Spec.step' (fun Kt => step_own m c ⟨12, by decide⟩ 16 (by decide) rfl (cond := k0_cond25 c) (by revert c; decide +kernel) (k0_off50_eq c) (k0_off51_eq c) (fun v => shapeCast_self v _)) ?_
  refine Spec.step (fun Kt => step_put m K c ⟨12, by decide⟩ 16 (by decide) rfl (cond := k0_cond26 c) (by revert c; decide +kernel) (fun _ => Fin.ext k0_dev30_eq)
    (k0_off53_eq c) rfl (fun _ => readyS_eq _ _ rfl) rfl (fun _ => sendS_eq _ _ rfl) (fun h => recvS_eq _ c (k0_off52_eq c))) ?_
  refine Spec.step' (fun Kt => step_own m c ⟨13, by decide⟩ 16 (by decide) rfl (cond := k0_cond27 c) (by revert c; decide +kernel) (k0_off54_eq c) (k0_off55_eq c) (fun v => shapeCast_self v _)) ?_
  refine Spec.step (fun Kt => step_put m K c ⟨13, by decide⟩ 16 (by decide) rfl (cond := k0_cond28 c) (by revert c; decide +kernel) (fun _ => Fin.ext k0_dev31_eq)
    (k0_off57_eq c) rfl (fun _ => readyS_eq _ _ rfl) rfl (fun _ => sendS_eq _ _ rfl) (fun h => recvS_eq _ c (k0_off56_eq c))) ?_
  refine Spec.step' (fun Kt => step_own m c ⟨14, by decide⟩ 16 (by decide) rfl (cond := k0_cond29 c) (by revert c; decide +kernel) (k0_off58_eq c) (k0_off59_eq c) (fun v => shapeCast_self v _)) ?_
  refine Spec.step (fun Kt => step_put m K c ⟨14, by decide⟩ 16 (by decide) rfl (cond := k0_cond30 c) (by revert c; decide +kernel) (fun _ => Fin.ext k0_dev32_eq)
    (k0_off61_eq c) rfl (fun _ => readyS_eq _ _ rfl) rfl (fun _ => sendS_eq _ _ rfl) (fun h => recvS_eq _ c (k0_off60_eq c))) ?_
  refine Spec.step' (fun Kt => step_own m c ⟨15, by decide⟩ 16 (by decide) rfl (cond := k0_cond31 c) (by revert c; decide +kernel) (k0_off62_eq c) (k0_off63_eq c) (fun v => shapeCast_self v _)) ?_
  refine Spec.step (fun Kt => step_put m K c ⟨15, by decide⟩ 16 (by decide) rfl (cond := k0_cond32 c) (by revert c; decide +kernel) (fun _ => Fin.ext k0_dev33_eq)
    (k0_off65_eq c) rfl (fun _ => readyS_eq _ _ rfl) rfl (fun _ => sendS_eq _ _ rfl) (fun h => recvS_eq _ c (k0_off64_eq c))) ?_
  exact Spec.ret Entails.rfl

end Cert.Exchange
end
-- ==== Proof.Piece3.lean ====
/-
The receiving pieces of the device's program: each block waited for, widened and stored.
-/
module

public import proofs.«01_k».proof.Proof.Specs

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m} (K : Dev nD × SemLoc sig → ℕ)

/-- The own block is widened; the block from one device before is waited for and widened. -/
theorem spec13 (c : Dev nD) (v a) :
    Spec m K c (k0_part13 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (RcvSt m c 1 0) (fun _ => RcvSt m c 2 2) := by
  rw [k0_part13_eq_skeleton]
  unfold k0_part13_skel
  simp -zeta -zetaHave only [semSignalWord, semWaitWord, Prog.lift, Prog.bind_op, Prog.bind_ret, Prog.pure_eq_ret]
  refine widen_block ⟨0, by decide⟩ (by decide) rfl rfl ((k0_off66_eq c).trans (by rw [bwd_zero])) ((k0_off66_eq c).trans (by rw [bwd_zero])) rfl ?_
  refine recv_block (rd 0) (by decide) rfl rfl (off69_eq c 0) (recvS_eq _ _ (off67_eq c 0)) Nb_any rfl ?_
  exact Spec.ret Entails.rfl

/-- The block from two devices before. -/
theorem spec14 (c : Dev nD) (v a) :
    Spec m K c (k0_part14 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (RcvSt m c 2 2)
      (fun _ => RcvSt m c 3 3) := by
  rw [k0_part14_eq_skeleton]
  unfold k0_part14_skel
  simp -zeta -zetaHave only [semSignalWord, semWaitWord, Prog.lift, Prog.bind_op, Prog.bind_ret, Prog.pure_eq_ret]
  refine recv_block (rd 1) (by decide) rfl rfl (off69_eq c 1) (recvS_eq _ _ (off67_eq c 1)) Nb_any rfl ?_
  exact Spec.ret Entails.rfl

/-- The block from three devices before. -/
theorem spec15 (c : Dev nD) (v a b d e f) :
    Spec m K c (k0_part15 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b d e f) (RcvSt m c 3 3)
      (fun _ => RcvSt m c 4 4) := by
  rw [k0_part15_eq_skeleton]
  unfold k0_part15_skel
  simp -zeta -zetaHave only [semSignalWord, semWaitWord, Prog.lift, Prog.bind_op, Prog.bind_ret, Prog.pure_eq_ret]
  refine recv_block (rd 2) (by decide) rfl rfl (off69_eq c 2) (recvS_eq _ _ (off67_eq c 2)) Nb_any rfl ?_
  exact Spec.ret Entails.rfl

/-- Block `d` of the receive buffer, widened, before it is put in the result's shape. -/
def wide (m : (ℓ : Loc nD τ sig) → Buf (Elt F) ℓ) (c d : Dev nD) : FVec F S128x128 .f32 :=
  extf .f32 ((fun x => RF m c ((rectR (bwd c d)).emb x)) : FVec F S128x128 .bf16) bitsLt_bf16_f32
/-- An entry of a received block, widened. -/
theorem wide_at (c d : Dev nD) (x : S128x128.Idx) :
    shapeCast S128x128 (wide m c d) shapeCasts_S128x128_S128x128 x = FloatOps.extf .f32 bitsLt_bf16_f32 (RF m c ((rectR (bwd c d)).emb x)) := by
  rw [shapeCast_self]; rfl

/-- The block from four devices before is received and widened; the one from five before is waited for and read. -/
theorem spec16 (c : Dev nD) (v a) :
    Spec m K c (k0_part16 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (RcvSt m c 4 4)
      (fun r => iprop(⌜r.2.1 = wide m c (rd 4)⌝ ∗ RcvSt m c 6 5)) := by
  rw [k0_part16_eq_skeleton]
  unfold k0_part16_skel
  simp -zeta -zetaHave only [semSignalWord, semWaitWord, Prog.lift, Prog.bind_op, Prog.bind_ret, Prog.pure_eq_ret]
  refine recv_block (rd 3) (by decide) rfl rfl (off69_eq c 3) (recvS_eq _ _ (off67_eq c 3)) Nb_any rfl ?_
  refine Spec.step (fun Kt => step_recv m K c (rd 4) (by decide) rfl rfl 5 (recvS_eq _ _ (off67_eq c 4)) Nb_any) ?_
  refine Spec.step' (fun Kt => step_read m c (rd 4) _ _ (by decide) (off69_eq c 4)) ?_
  refine Spec.ret ?_
  iintro H
  isplitr; · ipureintro; rfl
  iexact H

/-- The fifth block is stored; the sixth is received and widened. -/
theorem spec17 (c : Dev nD) (v a b) :
    Spec m K c (k0_part17 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a (wide m c (rd 4)) b) (RcvSt m c 6 5)
      (fun _ => RcvSt m c 7 7) := by
  rw [k0_part17_eq_skeleton]
  unfold k0_part17_skel
  simp -zeta -zetaHave only [semSignalWord, semWaitWord, Prog.lift, Prog.bind_op, Prog.bind_ret, Prog.pure_eq_ret]
  refine Spec.stepAll (fun Kt => step_peek m c _ _) fun _ => ?_
  refine Spec.step' (fun Kt => step_write m c (rd 4) _ rfl rfl (off69_eq c 4) (fun x => wide_at c (rd 4) x)) ?_
  refine recv_block (rd 5) (by decide) rfl rfl (off69_eq c 5) (recvS_eq _ _ (off67_eq c 5)) Nb_any rfl ?_
  exact Spec.ret Entails.rfl

/-- The seventh block. -/
theorem spec18 (c : Dev nD) (v a b d e) :
    Spec m K c (k0_part18 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b d e) (RcvSt m c 7 7)
      (fun _ => RcvSt m c 8 8) := by
  rw [k0_part18_eq_skeleton]
  unfold k0_part18_skel
  simp -zeta -zetaHave only [semSignalWord, semWaitWord, Prog.lift, Prog.bind_op, Prog.bind_ret, Prog.pure_eq_ret]
  refine recv_block (rd 6) (by decide) rfl rfl (off69_eq c 6) (recvS_eq _ _ (off67_eq c 6)) Nb_any rfl ?_
  exact Spec.ret Entails.rfl

/-- The eighth block. -/
theorem spec19 (c : Dev nD) (v a b) :
    Spec m K c (k0_part19 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b) (RcvSt m c 8 8)
      (fun _ => RcvSt m c 9 9) := by
  rw [k0_part19_eq_skeleton]
  unfold k0_part19_skel
  simp -zeta -zetaHave only [semSignalWord, semWaitWord, Prog.lift, Prog.bind_op, Prog.bind_ret, Prog.pure_eq_ret]
  refine recv_block (rd 7) (by decide) rfl rfl (off69_eq c 7) (recvS_eq _ _ (off67_eq c 7)) Nb_any rfl ?_
  exact Spec.ret Entails.rfl

/-- The ninth block is received and widened; the tenth is waited for and read. -/
theorem spec20 (c : Dev nD) (v a) :
    Spec m K c (k0_part20 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (RcvSt m c 9 9)
      (fun r => iprop(⌜r = wide m c (rd 9)⌝ ∗ RcvSt m c 11 10)) := by
  rw [k0_part20_eq_skeleton]
  unfold k0_part20_skel
  simp -zeta -zetaHave only [semSignalWord, semWaitWord, Prog.lift, Prog.bind_op, Prog.bind_ret, Prog.pure_eq_ret]
  refine recv_block (rd 8) (by decide) rfl rfl (off69_eq c 8) (recvS_eq _ _ (off67_eq c 8)) Nb_any rfl ?_
  refine Spec.step (fun Kt => step_recv m K c (rd 9) (by decide) rfl rfl 10 (recvS_eq _ _ (off67_eq c 9)) Nb_any) ?_
  refine Spec.step' (fun Kt => step_read m c (rd 9) _ _ (by decide) (off69_eq c 9)) ?_
  refine Spec.stepAll (fun Kt => step_peek m c _ _) fun _ => ?_
  refine Spec.ret ?_
  iintro H
  isplitr; · ipureintro; rfl
  iexact H

/-- The tenth block is stored; the eleventh is received and widened. -/
theorem spec21 (c : Dev nD) (v) :
    Spec m K c (k0_part21 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v (wide m c (rd 9))) (RcvSt m c 11 10)
      (fun _ => RcvSt m c 12 12) := by
  rw [k0_part21_eq_skeleton]
  unfold k0_part21_skel
  simp -zeta -zetaHave only [semSignalWord, semWaitWord, Prog.lift, Prog.bind_op, Prog.bind_ret, Prog.pure_eq_ret]
  refine Spec.step' (fun Kt => step_write m c (rd 9) _ rfl rfl (off69_eq c 9) (fun x => wide_at c (rd 9) x)) ?_
  refine recv_block (rd 10) (by decide) rfl rfl (off69_eq c 10) (recvS_eq _ _ (off67_eq c 10)) Nb_any rfl ?_
  exact Spec.ret Entails.rfl

/-- The twelfth block. -/
theorem spec22 (c : Dev nD) (v a b d e) :
    Spec m K c (k0_part22 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b d e) (RcvSt m c 12 12)
      (fun _ => RcvSt m c 13 13) := by
  rw [k0_part22_eq_skeleton]
  unfold k0_part22_skel
  simp -zeta -zetaHave only [semSignalWord, semWaitWord, Prog.lift, Prog.bind_op, Prog.bind_ret, Prog.pure_eq_ret]
  refine recv_block (rd 11) (by decide) rfl rfl (off69_eq c 11) (recvS_eq _ _ (off67_eq c 11)) Nb_any rfl ?_
  exact Spec.ret Entails.rfl

/-- The thirteenth block is received and widened; the fourteenth is waited for. -/
theorem spec23 (c : Dev nD) (v a b d) :
    Spec m K c (k0_part23 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b d) (RcvSt m c 13 13)
      (fun _ => RcvSt m c 15 14) := by
  rw [k0_part23_eq_skeleton]
  unfold k0_part23_skel
  simp -zeta -zetaHave only [semSignalWord, semWaitWord, Prog.lift, Prog.bind_op, Prog.bind_ret, Prog.pure_eq_ret]
  refine recv_block (rd 12) (by decide) rfl rfl (off69_eq c 12) (recvS_eq _ _ (off67_eq c 12)) Nb_any rfl ?_
  refine Spec.step (fun Kt => step_recv m K c (rd 13) (by decide) rfl rfl 14 (recvS_eq _ _ (off67_eq c 13)) Nb_any) ?_
  exact Spec.ret Entails.rfl

/-- The fourteenth block is widened; the fifteenth is received and widened. -/
theorem spec24 (c : Dev nD) (v a) :
    Spec m K c (k0_part24 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (RcvSt m c 15 14)
      (fun _ => RcvSt m c 16 16) := by
  rw [k0_part24_eq_skeleton]
  unfold k0_part24_skel
  simp -zeta -zetaHave only [semSignalWord, semWaitWord, Prog.lift, Prog.bind_op, Prog.bind_ret, Prog.pure_eq_ret]
  refine widen_block (rd 13) (by decide) rfl rfl (off69_eq c 13) (off69_eq c 13) rfl ?_
  refine recv_block (rd 14) (by decide) rfl rfl (off69_eq c 14) (recvS_eq _ _ (off67_eq c 14)) Nb_any rfl ?_
  exact Spec.ret Entails.rfl

end Cert.Exchange
end
-- ==== Proof.Piece1.lean ====
/-
The first pieces of the device's program: the local copies started, the ready signals, the barrier.
-/
module

public import proofs.«01_k».proof.Proof.Specs

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m} (K : Dev nD × SemLoc sig → ℕ)

/-- The word a device computes for its own place. -/
abbrev place (c : Dev nD) : BitVec 32 := Scalar.remsi (Scalar.divsi (Dev.word c) 1#32) 16#32

/-- What the first piece starts from. -/
def Start1 (m : (ℓ : Loc nD τ sig) → Buf (Elt F) ℓ) (c : Dev nD) : sProp 𝕄 :=
  iprop(((∃ f, bufPts c cc0_scratch0 f) ∗ bufPts c main_arg0 (XF m c) ∗ dutyTok ER (kcell (c, .dma (inS 0))) 0 false)
    ∗ ((∃ f, wPts c 0 f) ∗ whPts c 0 (WF m c) ∗ dutyTok ER (kcell (c, .dma (wS 0))) 0 false)
    ∗ ((∃ f, wPts c 1 f) ∗ whPts c 1 (WF m c) ∗ dutyTok ER (kcell (c, .dma (wS 1))) 0 false)
    ∗ SigSt c 1)
/-- The credits to wait for the three copies in. -/
def Creds (c : Dev nD) : sProp 𝕄 :=
  iprop(cred (tallyAt (kcell (c, .dma (wS 1))) () Nw) ∗ cred (tallyAt (kcell (c, .dma (wS 0))) () Nw) ∗ cred (tallyAt (kcell (c, .dma (inS 0))) () Nx))

/-- The local copies are started, and the first ready signal is sent. -/
theorem spec1 (c : Dev nD) :
    Spec m K c (k0_part1 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8) (Start1 m c)
      (fun r => iprop(⌜r.1 = c ∧ r.2.1 = place c⌝ ∗ SigSt c 2 ∗ Creds c)) := by
  rw [k0_part1_eq_skeleton]
  unfold k0_part1_skel
  simp -zeta -zetaHave only [semSignalWord, semWaitWord, Prog.lift, Prog.bind_op, Prog.bind_ret, Prog.pure_eq_ret]
  refine Spec.deviceId ?_
  unfold Start1
  refine Spec.stepF Entails.rfl (fun Kt => copy_x m K c (inS_eq _ 0 rfl)) ?_
  refine Spec.stepF (A := iprop((∃ f, wPts c 0 f) ∗ whPts c 0 (WF m c) ∗ dutyTok ER (kcell (c, .dma (wS 0))) 0 false))
    (R := iprop((((∃ f, wPts c 1 f) ∗ whPts c 1 (WF m c) ∗ dutyTok ER (kcell (c, .dma (wS 1))) 0 false) ∗ SigSt c 1) ∗ cred (tallyAt (kcell (c, .dma (inS 0))) () Nx)))
    (sep_comm.trans sep_assoc) (fun Kt => copy_w m K c 0 rfl (inS_eq _ 1 rfl)) ?_
  refine Spec.stepF (A := iprop((∃ f, wPts c 1 f) ∗ whPts c 1 (WF m c) ∗ dutyTok ER (kcell (c, .dma (wS 1))) 0 false)) (R := iprop(SigSt c 1 ∗ cred (tallyAt (kcell (c, .dma (wS 0))) () Nw) ∗ cred (tallyAt (kcell (c, .dma (inS 0))) () Nx))) ?_
    (fun Kt => copy_w m K c 1 rfl (inS_eq _ 2 rfl)) ?_
  · iintro ⟨H0, ⟨⟨H1, HS⟩, HX⟩⟩
    isplitl [H1]; · iexact H1
    isplitl [HS]; · iexact HS
    isplitl [H0]; · iexact H0
    iexact HX
  refine Spec.stepF (R := Creds c) ?_ (fun Kt => step_signal m K c ⟨1, by decide⟩ (by decide) (Fin.ext (show k0_dev1 c = (fwd c ⟨1, by decide⟩).val by revert c; decide +kernel)) (readyS_eq _ c (k0_off1_eq c)) rfl) ?_
  · iintro ⟨H1, HS, HC⟩
    isplitl [HS]; · iexact HS
    unfold Creds
    isplitl [H1]; · iexact H1
    iexact HC
  refine Spec.ret ?_
  iintro H
  isplitr; · ipureintro; exact ⟨rfl, rfl⟩
  iexact H

/-- Ready signals: two more. -/
theorem spec2 (c : Dev nD) (v a b d) :
    Spec m K c (k0_part2 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b d) (SigSt c 2)
      (fun _ => SigSt c 4) := by
  rw [k0_part2_eq_skeleton]
  unfold k0_part2_skel
  simp -zeta -zetaHave only [semSignalWord, semWaitWord, Prog.lift, Prog.bind_op, Prog.bind_ret, Prog.pure_eq_ret]
  refine Spec.step (fun Kt => step_signal m K c ⟨2, by decide⟩ (by decide) (Fin.ext (show k0_dev2 c = (fwd c ⟨2, by decide⟩).val by revert c; decide +kernel)) (readyS_eq _ c (k0_off1_eq c)) rfl) ?_
  refine Spec.step (fun Kt => step_signal m K c ⟨3, by decide⟩ (by decide) (Fin.ext (show k0_dev3 c = (fwd c ⟨3, by decide⟩).val by revert c; decide +kernel)) (readyS_eq _ c (k0_off1_eq c)) rfl) ?_
  exact Spec.ret Entails.rfl

/-- Ready signals: two more. -/
theorem spec3 (c : Dev nD) (v a b d e) :
    Spec m K c (k0_part3 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b d e) (SigSt c 4)
      (fun _ => SigSt c 6) := by
  rw [k0_part3_eq_skeleton]
  unfold k0_part3_skel
  simp -zeta -zetaHave only [semSignalWord, semWaitWord, Prog.lift, Prog.bind_op, Prog.bind_ret, Prog.pure_eq_ret]
  refine Spec.step (fun Kt => step_signal m K c ⟨4, by decide⟩ (by decide) (Fin.ext (show k0_dev4 c = (fwd c ⟨4, by decide⟩).val by revert c; decide +kernel)) (readyS_eq _ c (k0_off1_eq c)) rfl) ?_
  refine Spec.step (fun Kt => step_signal m K c ⟨5, by decide⟩ (by decide) (Fin.ext (show k0_dev5 c = (fwd c ⟨5, by decide⟩).val by revert c; decide +kernel)) (readyS_eq _ c (k0_off1_eq c)) rfl) ?_
  exact Spec.ret Entails.rfl

/-- Ready signals: three more. -/
theorem spec4 (c : Dev nD) (v a) :
    Spec m K c (k0_part4 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (SigSt c 6)
      (fun _ => SigSt c 9) := by
  rw [k0_part4_eq_skeleton]
  unfold k0_part4_skel
  simp -zeta -zetaHave only [semSignalWord, semWaitWord, Prog.lift, Prog.bind_op, Prog.bind_ret, Prog.pure_eq_ret]
  refine Spec.step (fun Kt => step_signal m K c ⟨6, by decide⟩ (by decide) (Fin.ext (show k0_dev6 c = (fwd c ⟨6, by decide⟩).val by revert c; decide +kernel)) (readyS_eq _ c (k0_off1_eq c)) rfl) ?_
  refine Spec.step (fun Kt => step_signal m K c ⟨7, by decide⟩ (by decide) (Fin.ext (show k0_dev7 c = (fwd c ⟨7, by decide⟩).val by revert c; decide +kernel)) (readyS_eq _ c (k0_off1_eq c)) rfl) ?_
  refine Spec.step (fun Kt => step_signal m K c ⟨8, by decide⟩ (by decide) (Fin.ext (show k0_dev8 c = (fwd c ⟨8, by decide⟩).val by revert c; decide +kernel)) (readyS_eq _ c (k0_off1_eq c)) rfl) ?_
  exact Spec.ret Entails.rfl

/-- Ready signals: two more. -/
theorem spec5 (c : Dev nD) (v a) :
    Spec m K c (k0_part5 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (SigSt c 9)
      (fun _ => SigSt c 11) := by
  rw [k0_part5_eq_skeleton]
  unfold k0_part5_skel
  simp -zeta -zetaHave only [semSignalWord, semWaitWord, Prog.lift, Prog.bind_op, Prog.bind_ret, Prog.pure_eq_ret]
  refine Spec.step (fun Kt => step_signal m K c ⟨9, by decide⟩ (by decide) (Fin.ext (show k0_dev9 c = (fwd c ⟨9, by decide⟩).val by revert c; decide +kernel)) (readyS_eq _ c (k0_off1_eq c)) rfl) ?_
  refine Spec.step (fun Kt => step_signal m K c ⟨10, by decide⟩ (by decide) (Fin.ext (show k0_dev10 c = (fwd c ⟨10, by decide⟩).val by revert c; decide +kernel)) (readyS_eq _ c (k0_off1_eq c)) rfl) ?_
  exact Spec.ret Entails.rfl

/-- Ready signals: two more. -/
theorem spec6 (c : Dev nD) (v a b d) :
    Spec m K c (k0_part6 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a b d) (SigSt c 11)
      (fun _ => SigSt c 13) := by
  rw [k0_part6_eq_skeleton]
  unfold k0_part6_skel
  simp -zeta -zetaHave only [semSignalWord, semWaitWord, Prog.lift, Prog.bind_op, Prog.bind_ret, Prog.pure_eq_ret]
  refine Spec.step (fun Kt => step_signal m K c ⟨11, by decide⟩ (by decide) (Fin.ext (show k0_dev11 c = (fwd c ⟨11, by decide⟩).val by revert c; decide +kernel)) (readyS_eq _ c (k0_off1_eq c)) rfl) ?_
  refine Spec.step (fun Kt => step_signal m K c ⟨12, by decide⟩ (by decide) (Fin.ext (show k0_dev12 c = (fwd c ⟨12, by decide⟩).val by revert c; decide +kernel)) (readyS_eq _ c (k0_off1_eq c)) rfl) ?_
  exact Spec.ret Entails.rfl

/-- Ready signals: the last three. -/
theorem spec7 (c : Dev nD) (v a) :
    Spec m K c (k0_part7 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v a) (SigSt c 13)
      (fun _ => SigSt c 16) := by
  rw [k0_part7_eq_skeleton]
  unfold k0_part7_skel
  simp -zeta -zetaHave only [semSignalWord, semWaitWord, Prog.lift, Prog.bind_op, Prog.bind_ret, Prog.pure_eq_ret]
  refine Spec.step (fun Kt => step_signal m K c ⟨13, by decide⟩ (by decide) (Fin.ext (show k0_dev13 c = (fwd c ⟨13, by decide⟩).val by revert c; decide +kernel)) (readyS_eq _ c (k0_off1_eq c)) rfl) ?_
  refine Spec.step (fun Kt => step_signal m K c ⟨14, by decide⟩ (by decide) (Fin.ext (show k0_dev14 c = (fwd c ⟨14, by decide⟩).val by revert c; decide +kernel)) (readyS_eq _ c (k0_off1_eq c)) rfl) ?_
  refine Spec.step (fun Kt => step_signal m K c ⟨15, by decide⟩ (by decide) (Fin.ext (show k0_dev15 c = (fwd c ⟨15, by decide⟩).val by revert c; decide +kernel)) (readyS_eq _ c (k0_off1_eq c)) rfl) ?_
  exact Spec.ret Entails.rfl

/-- What the barrier piece starts from. -/
def Bar1 (m : (ℓ : Loc nD τ sig) → Buf (Elt F) ℓ) (c : Dev nD) : sProp 𝕄 :=
  iprop((owing c (barRem' c) ∗ dutyTok ER (barCell (nxt c)) 0 false) ∗ dutyTok ER (barCell (prv c)) 0 true
    ∗ (cred (tallyAt (barCell c) () 2) ∗ atPos ER (barCell c) 0 ∅ 0)
    ∗ cred (tallyAt (kcell (c, .dma (inS 0))) () Nx) ∗ atPos ER (kcell (c, .dma (inS 0))) 0 ∅ 0)
/-- What it ends with: both neighbours are there, and `x` is in its buffer. -/
def Bar2 (m : (ℓ : Loc nD τ sig) → Buf (Elt F) ℓ) (c : Dev nD) : sProp 𝕄 :=
  iprop((owing c (recvRem c 0) ∗ atPos ER (kcell (c, .dma (inS 0))) 1 ∅ 0 ∗ bufPts c cc0_scratch0 (XF m c) ∗ bufPts c main_arg0 (XF m c))
    ∗ atPos ER (barCell c) 1 ∅ 0)

/-- The barrier: a signal to each neighbour, and the wait for theirs. -/
theorem spec8 (c : Dev nD) (v) :
    Spec m K c (k0_part8 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 c v) (Bar1 m c)
      (fun _ => Bar2 m c) := by
  rw [k0_part8_eq_skeleton]
  unfold k0_part8_skel
  simp -zeta -zetaHave only [semSignalWord, semWaitWord, Prog.lift, Prog.bind_op, Prog.bind_ret, Prog.pure_eq_ret]
  unfold Bar1
  refine Spec.stepF Entails.rfl (fun Kt => step_bar m K c (nxt c) false (barRem c) (Fin.ext (show k0_dev16 c = (nxt c).val by revert c; decide +kernel)) rfl rfl) ?_
  refine Spec.stepF (A := iprop(owing c (barRem c) ∗ dutyTok ER (barCell (prv c)) 0 true))
    (R := iprop((cred (tallyAt (barCell c) () 2) ∗ atPos ER (barCell c) 0 ∅ 0) ∗ cred (tallyAt (kcell (c, .dma (inS 0))) () Nx) ∗ atPos ER (kcell (c, .dma (inS 0))) 0 ∅ 0))
    ?_ (fun Kt => step_bar m K c (prv c) true (recvRem c 0) (Fin.ext (show k0_dev17 c = (prv c).val by revert c; decide +kernel)) rfl rfl) ?_
  · iintro ⟨HO, HT, HR⟩
    isplitr [HR]
    · isplitl [HO]; · iexact HO
      iexact HT
    · iexact HR
  refine Spec.stepF (A := iprop(cred (tallyAt (barCell c) () 2) ∗ owing c (recvRem c 0) ∗ atPos ER (barCell c) 0 ∅ 0))
    (R := iprop(cred (tallyAt (kcell (c, .dma (inS 0))) () Nx) ∗ atPos ER (kcell (c, .dma (inS 0))) 0 ∅ 0)) ?_ (fun Kt => step_bar_wait m K c rfl rfl) ?_
  · iintro ⟨HO, ⟨HC, HA⟩, HR⟩
    isplitr [HR]
    · isplitl [HC]; · iexact HC
      isplitl [HO]; · iexact HO
      iexact HA
    · iexact HR
  refine Spec.stepF (A := iprop(cred (tallyAt (kcell (c, .dma (inS 0))) () Nx) ∗ owing c (recvRem c 0) ∗ atPos ER (kcell (c, .dma (inS 0))) 0 ∅ 0))
    (R := atPos ER (barCell c) 1 ∅ 0) ?_ (fun Kt => wait_x m K c (inS_eq _ 0 rfl)) ?_
  · iintro ⟨⟨HO, HB⟩, HC, HA⟩
    isplitr [HB]
    · isplitl [HC]; · iexact HC
      isplitl [HO]; · iexact HO
      iexact HA
    · iexact HB
  exact Spec.ret Entails.rfl

end Cert.Exchange
end
-- ==== Proof.Piece4.lean ====
/-
The last pieces of the device's program: the copy out and the drains.
-/
module

public import proofs.«01_k».proof.Proof.Piece1

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m} (K : Dev nD × SemLoc sig → ℕ)

/-- The test before a drain: whether the block went to another device. -/
theorem away (c j : Dev nD) : Scalar.cmpi .ne (Scalar.extui (Scalar.cmpi .ne (place c) (BitVec.ofNat 32 j.val)) : BitVec 32) 0#32 = 1#1 ↔ j ≠ c := by
  revert c j; decide +kernel

/-- The result buffer full, and what its copy out needs. -/
def OutPre (m : (ℓ : Loc nD τ sig) → Buf (Elt F) ℓ) (c : Dev nD) : sProp 𝕄 :=
  iprop((∃ f, bufPts c main_v1 f) ∗ bufPts c cc0_scratch4 (OF m c) ∗ dutyTok ER (kcell (c, .dma (inS 3))) 0 false)

set_option maxHeartbeats 2000000 in
/-- The copy out is started, and the first nine drains. -/
theorem spec25 (c : Dev nD) :
    Spec m K c (k0_part25 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 (place c)) iprop(OutPre m c ∗ DrSt m c 0)
      (fun r => iprop(⌜r = Scalar.cmpi .ne (Scalar.extui (Scalar.cmpi .ne (place c) 9#32)) 0#32⌝ ∗ (DrSt m c 9 ∗ cred (tallyAt (kcell (c, .dma (inS 3))) () No)))) := by
  rw [k0_part25_eq_skeleton]
  unfold k0_part25_skel
  simp -zeta -zetaHave only [semSignalWord, semWaitWord, Prog.lift, Prog.bind_op, Prog.bind_ret, Prog.pure_eq_ret]
  refine Spec.stepF Entails.rfl (fun Kt => copy_o m K c (inS_eq _ 3 rfl)) ?_
  refine Spec.pre sep_comm (Spec.mono Entails.rfl
    (Spec.frame (Q := fun r => iprop(⌜r = Scalar.cmpi .ne (Scalar.extui (Scalar.cmpi .ne (place c) 9#32)) 0#32⌝ ∗ DrSt m c 9)) ?_) fun r => sep_assoc)
  extract_lets
  refine Spec.step (fun Kt => step_drain m K c ⟨0, by decide⟩ rfl rfl (away c ⟨0, by decide⟩) (fun _ => sendS_eq _ _ rfl) (fun _ => Nb_eq' ⟨0, by decide⟩)) ?_
  refine Spec.step (fun Kt => step_drain m K c ⟨1, by decide⟩ rfl rfl (away c ⟨1, by decide⟩) (fun _ => sendS_eq _ _ rfl) (fun _ => Nb_eq' ⟨0, by decide⟩)) ?_
  refine Spec.step (fun Kt => step_drain m K c ⟨2, by decide⟩ rfl rfl (away c ⟨2, by decide⟩) (fun _ => sendS_eq _ _ rfl) (fun _ => Nb_eq' ⟨0, by decide⟩)) ?_
  refine Spec.step (fun Kt => step_drain m K c ⟨3, by decide⟩ rfl rfl (away c ⟨3, by decide⟩) (fun _ => sendS_eq _ _ rfl) (fun _ => Nb_eq' ⟨0, by decide⟩)) ?_
  refine Spec.step (fun Kt => step_drain m K c ⟨4, by decide⟩ rfl rfl (away c ⟨4, by decide⟩) (fun _ => sendS_eq _ _ rfl) (fun _ => Nb_eq' ⟨0, by decide⟩)) ?_
  refine Spec.step (fun Kt => step_drain m K c ⟨5, by decide⟩ rfl rfl (away c ⟨5, by decide⟩) (fun _ => sendS_eq _ _ rfl) (fun _ => Nb_eq' ⟨0, by decide⟩)) ?_
  refine Spec.step (fun Kt => step_drain m K c ⟨6, by decide⟩ rfl rfl (away c ⟨6, by decide⟩) (fun _ => sendS_eq _ _ rfl) (fun _ => Nb_eq' ⟨0, by decide⟩)) ?_
  refine Spec.step (fun Kt => step_drain m K c ⟨7, by decide⟩ rfl rfl (away c ⟨7, by decide⟩) (fun _ => sendS_eq _ _ rfl) (fun _ => Nb_eq' ⟨0, by decide⟩)) ?_
  refine Spec.step (fun Kt => step_drain m K c ⟨8, by decide⟩ rfl rfl (away c ⟨8, by decide⟩) (fun _ => sendS_eq _ _ rfl) (fun _ => Nb_eq' ⟨0, by decide⟩)) ?_
  refine Spec.ret ?_
  iintro H
  isplitr; · ipureintro; rfl
  iexact H

end Cert.Exchange
end
-- ==== Proof.States.lean ====
/-
What a device holds from one phase of its program to the next, and how each phase's end gives the next phase's start.
-/
module

public import proofs.«01_k».proof.Proof.Piece2
public import proofs.«01_k».proof.Proof.Piece3
public import proofs.«01_k».proof.Proof.Piece4

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m}

/-! ## Parts of the state -/

/-- Resources for every device but one are the same as with nothing for that one; what is put in its place takes its place. -/
theorem fill (k : Dev nD) (X : sProp 𝕄) (C : Dev nD → sProp 𝕄) (p : Dev nD → Prop) [DecidablePred p] (hp : ∀ d, p d ↔ d = k) :
    iprop((bigSep Finset.univ fun d => if p d then iprop(emp) else C d) ∗ X) ⊢ bigSep Finset.univ fun d => if p d then X else C d := by
  rw [bigSep_univ_split k, bigSep_univ_split k (Φ := fun d => if p d then X else C d), if_pos ((hp k).mpr rfl), if_pos ((hp k).mpr rfl)]
  have e : (bigSep (Finset.univ.erase k) fun d => if p d then iprop(emp) else C d) = bigSep (Finset.univ.erase k) fun d => if p d then X else C d :=
    bigSep_congr fun d hd => by
      have hne : ¬ p d := fun h => (Finset.mem_erase.mp hd).1 ((hp d).mp h)
      rw [if_neg hne, if_neg hne]
  rw [e]
  change iprop((iprop(emp) ∗ bigSep (Finset.univ.erase k) fun d => if p d then X else C d) ∗ X) ⊢ iprop(X ∗ bigSep (Finset.univ.erase k) fun d => if p d then X else C d)
  iintro ⟨⟨-, HR⟩, HX⟩
  isplitl [HX]; · iexact HX
  iexact HR

/-- The tokens and credit of the barrier. -/
def BarIn (c : Dev nD) : sProp 𝕄 :=
  iprop(dutyTok ER (barCell (nxt c)) 0 false ∗ dutyTok ER (barCell (prv c)) 0 true ∗ cred (tallyAt (barCell c) () 2) ∗ atPos ER (barCell c) 0 ∅ 0)
/-- The positions of the receive semaphores and the credits to wait for the other devices' blocks. -/
def RecvIn (c : Dev nD) : sProp 𝕄 :=
  iprop((bigSep Finset.univ fun d : Dev nD => atPos ER (recvCell c (bwd c d)) 0 ∅ 0)
    ∗ bigSep Finset.univ fun d : Dev nD => if d.val = 0 then iprop(emp) else cred (tallyAt (recvCell c (bwd c d)) () Nb))
/-- The positions of the send semaphores. -/
def SendPos (c : Dev nD) : sProp 𝕄 := bigSep Finset.univ fun j : Dev nD => atPos ER (sendCell c j) 0 ∅ 0
/-- For each transfer, the credit to wait for it; for the own block, the block. -/
def SentY (m : (ℓ : Loc nD τ sig) → Buf (Elt F) ℓ) (c : Dev nD) : sProp 𝕄 :=
  bigSep Finset.univ fun j : Dev nD => if j = c then yPts c j (YF m c) else cred (tallyAt (sendCell c j) () Nb)

/-- What the drains and the copy out need. -/
def R5 (c : Dev nD) : sProp 𝕄 :=
  iprop((SendPos c ∗ (∃ f, bufPts (F := F) c main_v1 f) ∗ dutyTok ER (kcell (c, .dma (inS 3))) 0 false) ∗ atPos ER (kcell (c, .dma (inS 3))) 0 ∅ 0)
/-- And the receives. -/
def R4 (c : Dev nD) : sProp 𝕄 := iprop((RecvIn c ∗ ∃ f, bufPts (F := F) c cc0_scratch4 f) ∗ R5 c)
/-- And the second half of the product. -/
def R3 (c : Dev nD) : sProp 𝕄 := iprop((atPos ER (kcell (c, .dma (wS 1))) 0 ∅ 0 ∗ ∃ f, yhPts (F := F) c 1 f) ∗ R4 c)
/-- And the first half, and all sends. -/
def R2 (m : (ℓ : Loc nD τ sig) → Buf (Elt F) ℓ) (c : Dev nD) : sProp 𝕄 :=
  iprop((atPos ER (kcell (c, .dma (wS 0))) 0 ∅ 0 ∗ (∃ f, yhPts (F := F) c 0 f) ∗ sweep (sndA (F := F) c) (sndB m c) 0 ∗ ownSt m c 0) ∗ R3 c)
/-- And the barrier. -/
def R1 (m : (ℓ : Loc nD τ sig) → Buf (Elt F) ℓ) (c : Dev nD) : sProp 𝕄 :=
  iprop((BarIn c ∗ atPos ER (kcell (c, .dma (inS 0))) 0 ∅ 0) ∗ R2 m c)
/-- All a device starts with. -/
def Start (m : (ℓ : Loc nD τ sig) → Buf (Elt F) ℓ) (c : Dev nD) : sProp 𝕄 := iprop(Start1 m c ∗ R1 m c)

/-- What is done with after the barrier. -/
def D1 (m : (ℓ : Loc nD τ sig) → Buf (Elt F) ℓ) (c : Dev nD) : sProp 𝕄 :=
  iprop(atPos ER (kcell (c, .dma (inS 0))) 1 ∅ 0 ∗ bufPts c main_arg0 (XF m c) ∗ atPos ER (barCell c) 1 ∅ 0)
/-- After the first half. -/
def D2 (m : (ℓ : Loc nD τ sig) → Buf (Elt F) ℓ) (c : Dev nD) : sProp 𝕄 :=
  iprop(D1 m c ∗ atPos ER (kcell (c, .dma (wS 0))) 1 ∅ 0 ∗ wPts c 0 (WF m c) ∗ whPts c 0 (WF m c))
/-- After the sends. -/
def D3 (m : (ℓ : Loc nD τ sig) → Buf (Elt F) ℓ) (c : Dev nD) : sProp 𝕄 :=
  iprop(D2 m c ∗ HalfRest m c 1 ∗ bigSep Finset.univ fun j : Dev nD => atPos ER (readyCell c j) (rnd c j) ∅ 0)
/-- After the receives. -/
def D4 (m : (ℓ : Loc nD τ sig) → Buf (Elt F) ℓ) (c : Dev nD) : sProp 𝕄 := iprop(D3 m c ∗ bigSep Finset.univ (rcvB m c))
/-- At the end. -/
def Done (m : (ℓ : Loc nD τ sig) → Buf (Elt F) ℓ) (c : Dev nD) : sProp 𝕄 :=
  iprop((owing c 0 ∗ atPos ER (kcell (c, .dma (inS 3))) 1 ∅ 0 ∗ bufPts c main_v1 (OF m c) ∗ bufPts c cc0_scratch4 (OF m c))
    ∗ bigSep Finset.univ (drB m c) ∗ D4 m c)

/-! ## From phase to phase -/

/-- After the ready signals: what the barrier starts from. -/
theorem to_bar (c : Dev nD) : iprop((SigSt c 16 ∗ Creds c) ∗ R1 m c)
    ⊢ iprop(Bar1 m c ∗ (cred (tallyAt (kcell (c, .dma (wS 1))) () Nw) ∗ cred (tallyAt (kcell (c, .dma (wS 0))) () Nw)) ∗ R2 m c) := by
  unfold SigSt Creds R1 BarIn Bar1
  rw [sigRem_end, add_zero]
  iintro ⟨⟨⟨HO, -⟩, HC1, HC0, HCx⟩, ⟨⟨HTN, HTP, HCb, HAb⟩, HAx⟩, HR⟩
  isplitl [HO HTN HTP HCb HAb HAx HCx]
  · isplitl [HO HTN]
    · isplitl [HO]; · iexact HO
      iexact HTN
    isplitl [HTP]; · iexact HTP
    isplitl [HCb HAb]
    · isplitl [HCb]; · iexact HCb
      iexact HAb
    isplitl [HCx]; · iexact HCx
    iexact HAx
  isplitl [HC1 HC0]
  · isplitl [HC1]; · iexact HC1
    iexact HC0
  iexact HR

/-- After the barrier: what the first half of the product starts from. -/
theorem to_half0 (c : Dev nD) : iprop(Bar2 m c ∗ (cred (tallyAt (kcell (c, .dma (wS 1))) () Nw) ∗ cred (tallyAt (kcell (c, .dma (wS 0))) () Nw)) ∗ R2 m c)
    ⊢ iprop(HalfPre m c 0 0 ∗ (cred (tallyAt (kcell (c, .dma (wS 1))) () Nw) ∗ R3 c) ∗ D1 m c) := by
  unfold Bar2 R2 HalfPre D1
  iintro ⟨⟨⟨HO, HAx, HX, HH⟩, HAb⟩, ⟨HC1, HC0⟩, ⟨HA0, HY, HS, HOwn⟩, HR⟩
  isplitl [HC0 HO HA0 HX HY HS HOwn]
  · isplitl [HC0 HO HA0]
    · isplitl [HC0]; · iexact HC0
      isplitl [HO]; · iexact HO
      iexact HA0
    isplitl [HX]; · iexact HX
    isplitl [HY]; · iexact HY
    isplitl [HS]; · iexact HS
    iexact HOwn
  isplitl [HC1 HR]
  · isplitl [HC1]; · iexact HC1
    iexact HR
  isplitl [HAx]; · iexact HAx
  isplitl [HH]; · iexact HH
  iexact HAb

/-- After the first half: what the second half starts from. -/
theorem to_half1 (c : Dev nD) : iprop((BlkSt m c 8 8 ∗ HalfRest m c 0) ∗ (cred (tallyAt (kcell (c, .dma (wS 1))) () Nw) ∗ R3 c) ∗ D1 m c)
    ⊢ iprop(HalfPre m c 1 8 ∗ R4 c ∗ D2 m c) := by
  unfold BlkSt SendSt HalfRest R3 HalfPre D2
  iintro ⟨⟨⟨⟨HO, HS, HOwn⟩, -⟩, HA0, HX, HW, HH⟩, ⟨HC, ⟨HA1, HY⟩, HR⟩, HD⟩
  isplitl [HC HO HA1 HX HY HS HOwn]
  · isplitl [HC HO HA1]
    · isplitl [HC]; · iexact HC
      isplitl [HO]; · iexact HO
      iexact HA1
    isplitl [HX]; · iexact HX
    isplitl [HY]; · iexact HY
    isplitl [HS]; · iexact HS
    iexact HOwn
  isplitl [HR]; · iexact HR
  isplitl [HD]; · iexact HD
  isplitl [HA0]; · iexact HA0
  isplitl [HW]; · iexact HW
  iexact HH

/-- The own block, put at distance zero. -/
theorem rcv_start (c : Dev nD) : iprop(RecvIn c ∗ rPts c c (RF m c)) ⊢ sweep (rcvA m c) (rcvB m c) 1 := by
  have h0 : rcvA m c ⟨0, by decide⟩ = rcvB m c ⟨0, by decide⟩ := by unfold rcvA rcvB; rw [if_pos rfl, if_pos rfl]
  have e : sweep (rcvA m c) (rcvB m c) 1 = sweep (rcvA m c) (rcvB m c) 0 := by
    rw [show (1 : ℕ) = (⟨0, by decide⟩ : Dev nD).val + 1 from rfl, sweep_put, ← h0]
    exact (sweep_take (rcvA m c) (rcvB m c) ⟨0, by decide⟩).symm
  rw [e, sweep_zero]
  have e' : bigSep Finset.univ (rcvA m c) = iprop((bigSep Finset.univ fun d : Dev nD => atPos ER (recvCell c (bwd c d)) 0 ∅ 0)
      ∗ bigSep Finset.univ fun d : Dev nD => if d.val = 0 then rPts c c (RF m c) else cred (tallyAt (recvCell c (bwd c d)) () Nb)) := by
    rw [← bigSep_sep']
    refine bigSep_congr fun d _ => ?_
    unfold rcvA
    by_cases h : d.val = 0
    · rw [if_pos h, if_pos h, show bwd c d = c by rw [show d = ⟨0, by decide⟩ from Fin.ext h]; exact bwd_zero c]
    · rw [if_neg h, if_neg h]
  rw [e']
  unfold RecvIn
  iintro ⟨⟨HA, HC⟩, HX⟩
  isplitl [HA]; · iexact HA
  iapply (fill ⟨0, by decide⟩ (rPts c c (RF m c)) (fun d : Dev nD => cred (tallyAt (recvCell c (bwd c d)) () Nb)) (fun d => d.val = 0)
    (fun d => ⟨fun h => Fin.ext h, fun h => by rw [h]⟩))
  isplitl [HC]; · iexact HC
  iexact HX

/-- After all sends: the positions of the ready semaphores, and what the drains start from. -/
theorem snd_end (c : Dev nD) : sweep (sndA (F := F) c) (sndB m c) 16
    ⊢ iprop((bigSep Finset.univ fun j : Dev nD => atPos ER (readyCell c j) (rnd c j) ∅ 0) ∗ SentY m c) := by
  rw [sweep_end]
  unfold SentY
  rw [← bigSep_sep']
  exact Entails.rfl

/-- After the second half: what the receives start from. -/
theorem to_recv (c : Dev nD) : iprop((BlkSt m c 16 16 ∗ HalfRest m c 1) ∗ R4 c ∗ D2 m c)
    ⊢ iprop(RcvSt m c 1 0 ∗ (R5 c ∗ SentY m c) ∗ D3 m c) := by
  unfold BlkSt SendSt R4 RcvSt D3 OutSt ownSt
  rw [recvRem_end]
  iintro ⟨⟨⟨⟨HO, HS, ⟨%f, %hf, HOwn⟩⟩, -⟩, HH⟩, ⟨⟨HRI, ⟨%g, HG⟩⟩, HR⟩, HD⟩
  obtain rfl := hf c.isLt
  ihave HS := (snd_end c) $$ HS
  icases HS with ⟨HA, HS⟩
  isplitl [HO HRI HOwn HG]
  · isplitl [HO]; · iexact HO
    isplitl [HRI HOwn]
    · iapply (rcv_start c)
      isplitl [HRI]; · iexact HRI
      iexact HOwn
    · iexists g
      isplitr
      · ipureintro; intro i hi; exact absurd hi (Nat.not_lt_zero _)
      · iexact HG
  isplitl [HR HS]
  · isplitl [HR]; · iexact HR
    iexact HS
  isplitl [HD]; · iexact HD
  isplitl [HH]; · iexact HH
  iexact HA

/-- After the receives: what the copy out and the drains start from. -/
theorem to_out (c : Dev nD) : iprop(RcvSt m c 16 16 ∗ (R5 c ∗ SentY m c) ∗ D3 m c)
    ⊢ iprop((OutPre m c ∗ DrSt m c 0) ∗ atPos ER (kcell (c, .dma (inS 3))) 0 ∅ 0 ∗ D4 m c) := by
  unfold RcvSt R5 D4 OutSt OutPre DrSt
  rw [sweep_end, sweep_zero]
  iintro ⟨⟨HO, HB, ⟨%f, %hf, HF⟩⟩, ⟨⟨⟨HSP, HV, HT⟩, HA⟩, HS⟩, HD⟩
  obtain rfl : f = OF m c := funext fun i => hf i (bwd c (srcOf i)).isLt
  isplitl [HV HF HT HO HSP HS]
  · isplitl [HV HF HT]
    · isplitl [HV]; · iexact HV
      isplitl [HF]; · iexact HF
      iexact HT
    isplitl [HO]; · iexact HO
    unfold SendPos SentY
    ihave H := (Entails.of_eq (bigSep_sep' Finset.univ (fun j : Dev nD => atPos ER (sendCell c j) 0 ∅ 0)
      (fun j : Dev nD => if j = c then yPts c j (YF m c) else cred (tallyAt (sendCell c j) () Nb))).symm) $$ [HSP HS]
    · isplitl [HSP]; · iexact HSP
      iexact HS
    iexact H
  isplitl [HA]; · iexact HA
  isplitl [HD]; · iexact HD
  iexact HB

end Cert.Exchange
end
-- ==== Proof.Ends.lean ====
/-
A device's first and last state: what it is given at launch is what its program starts from, and from what the program ends
with every semaphore of the device is back at zero and every buffer is whole again.
-/
module

public import proofs.«01_k».proof.Proof.Ghost
public import proofs.«01_k».proof.Proof.States

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Four things, one by one. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

/-- Going round the devices forwards, or backwards, from `c`. -/
theorem around_bwd (c : Dev nD) (Φ : Dev nD → sProp 𝕄) : bigSep Finset.univ Φ = bigSep Finset.univ fun d : Dev nD => Φ (bwd c d) := bigSep_univ_equiv (bwdE c) Φ

/-! ## The start -/

/-- The credits a device gets at launch. -/
def CredIn (c : Dev nD) : sProp 𝕄 :=
  iprop(cred (tallyAt (barCell c) () 2) ∗ (bigSep Finset.univ fun j : Dev nD => if j = c then iprop(emp) else cred (tallyAt (readyCell c j) () 1))
    ∗ bigSep Finset.univ fun j : Dev nD => if j = c then iprop(emp) else cred (tallyAt (recvCell c j) () Nb))

/-- The own block apart, the others with the rights to signal that they are ready. -/
theorem sig_start (c : Dev nD) : iprop((bigSep Finset.univ fun d : Dev nD => (dutyTok ER (readyCell (fwd c d) c) 0 false : sProp 𝕄))
    ∗ bigSep Finset.univ fun d : Dev nD => if d.val = 0 then iprop(emp) else iprop(∃ f, rPts (F := F) c (fwd c d) f))
      ⊢ sweep (sigA (F := F) c) (fun _ => iprop(emp)) 1 := by
  unfold sweep
  rw [← bigSep_sep']
  refine bigSep_mono fun d _ => ?_
  by_cases h : d.val = 0
  · rw [if_pos (show d.val < 1 by omega)]; exact drop (F := F) _
  · rw [if_neg h, if_neg (show ¬ d.val < 1 by omega), sigA_pos c d h]; exact BI.Entails.refl _

/-- What a device holds before it sends, put together device by device. -/
theorem snd_start (c : Dev nD) : iprop((bigSep Finset.univ fun j : Dev nD => (atPos ER (readyCell c j) 0 ∅ 0 : sProp 𝕄))
    ∗ (bigSep Finset.univ fun j : Dev nD => if j = c then iprop(emp) else cred (tallyAt (readyCell c j) () 1))
    ∗ (bigSep Finset.univ fun j : Dev nD => dutyTok ER (sendCell c j) 0 false)
    ∗ bigSep Finset.univ fun j : Dev nD => dutyTok ER (recvCell j c) 0 false) ⊢ sweep (sndA (F := F) c) (sndB m c) 0 := by
  rw [sweep_zero, ← bigSep_sep', ← bigSep_sep', ← bigSep_sep']
  refine bigSep_mono fun j _ => ?_
  unfold sndA
  by_cases h : j = c
  · rw [if_pos h, if_pos h]
    exact (show iprop((atPos ER (readyCell c j) 0 ∅ 0 : sProp 𝕄) ∗ emp ∗ dutyTok ER (sendCell c j) 0 false ∗ dutyTok ER (recvCell j c) 0 false)
      ⊢ iprop(atPos ER (readyCell c j) 0 ∅ 0 ∗ emp) from by
        iintro ⟨HA, -⟩
        isplitl [HA]; · iexact HA
        iempintro)
  · rw [if_neg h, if_neg h]; exact BI.Entails.refl _

/-- What a device holds to wait for the blocks, put together device by device. -/
theorem rcv_in (c : Dev nD) : iprop((bigSep Finset.univ fun j : Dev nD => (atPos ER (recvCell c j) 0 ∅ 0 : sProp 𝕄))
    ∗ bigSep Finset.univ fun j : Dev nD => if j = c then iprop(emp) else cred (tallyAt (recvCell c j) () Nb)) ⊢ RecvIn (F := F) c := by
  have e1 := around_bwd c fun j : Dev nD => (atPos ER (recvCell c j) 0 ∅ 0 : sProp 𝕄)
  have e2 := around_bwd c fun j : Dev nD => (if j = c then iprop(emp) else cred (tallyAt (recvCell c j) () Nb) : sProp 𝕄)
  have e3 : (bigSep Finset.univ fun d : Dev nD => (if bwd c d = c then iprop(emp) else cred (tallyAt (recvCell c (bwd c d)) () Nb) : sProp 𝕄))
      = bigSep Finset.univ fun d : Dev nD => if d.val = 0 then iprop(emp) else cred (tallyAt (recvCell c (bwd c d)) () Nb) := by
    refine bigSep_congr fun d _ => ?_
    by_cases h : d.val = 0
    · rw [if_pos h, if_pos (by rw [show d = ⟨0, by decide⟩ from Fin.ext h]; exact bwd_zero c)]
    · rw [if_neg h, if_neg (bwd_ne c d h)]
  rw [e1, e2, e3]
  exact Entails.rfl

/-- All that the launch and the region's entry give device `c`. -/
def Given (c : Dev nD) : sProp 𝕄 :=
  iprop((posAll c ∗ payToks c ∗ CredIn c) ∗ (bufPts c main_arg0 (XF m c) ∗ bufPts c main_arg1 (WF m c) ∗ ∃ f, bufPts (F := F) c main_v1 f)
    ∗ (∃ f, bufPts (F := F) c cc0_scratch0 f) ∗ (∃ f, bufPts (F := F) c cc0_scratch1 f) ∗ (∃ f, bufPts (F := F) c cc0_scratch2 f)
    ∗ (∃ f, bufPts (F := F) c cc0_scratch3 f) ∗ ∃ f, bufPts (F := F) c cc0_scratch4 f)

/-- It is what the program starts from. -/
theorem to_start (c : Dev nD) : iprop(owing c (O₀ c) ∗ Given m c) ⊢ Start m c := by
  unfold Given posAll payToks CredIn
  rw [sems_split, four, four]
  iintro ⟨HO, ⟨⟨HAb, HAr, ⟨HA0, HA1, HA2, HA3⟩, HAs, HAv⟩, ⟨⟨HTn, HTp⟩, HTr, ⟨HT0, HT1, HT2, HT3⟩, HTs, HTv⟩, HCb, HCr, HCv⟩, ⟨HX, HW, HV⟩, Hx, ⟨%fw, Hw⟩, ⟨%fy, Hy⟩, ⟨%fr, Hr⟩, Ho⟩
  ihave HW := (Entails.of_eq (wh_cut c (WF m c))) $$ HW
  icases HW with ⟨HW0, HW1⟩
  ihave Hw := (Entails.of_eq (w_cut c fw)) $$ Hw
  icases Hw with ⟨Hw0, Hw1⟩
  ihave Hy := (Entails.of_eq (y_cut c fy)) $$ Hy
  icases Hy with ⟨Hy0, Hy1⟩
  ihave Hr := (r_start c fr) $$ Hr
  icases Hr with ⟨⟨%fo, Hown⟩, Hr⟩
  unfold Start
  isplitl [HO Hx HX HT0 Hw0 HW0 HT1 Hw1 HW1 HT2 HTr Hr]
  · unfold Start1 SigSt
    isplitl [Hx HX HT0]
    · isplitl [Hx]; · iexact Hx
      isplitl [HX]; · iexact HX
      iexact HT0
    isplitl [Hw0 HW0 HT1]
    · isplitl [Hw0]; · iexists fw; iexact Hw0
      isplitl [HW0]; · iexact HW0
      iexact HT1
    isplitl [Hw1 HW1 HT2]
    · isplitl [Hw1]; · iexists fw; iexact Hw1
      isplitl [HW1]; · iexact HW1
      iexact HT2
    isplitl [HO]; · iexact HO
    iapply (sig_start c)
    isplitl [HTr]; · iexact HTr
    iexact Hr
  unfold R1 BarIn
  isplitl [HTn HTp HCb HAb HA0]
  · isplitl [HTn HTp HCb HAb]
    · isplitl [HTn]; · iexact HTn
      isplitl [HTp]; · iexact HTp
      isplitl [HCb]; · iexact HCb
      iexact HAb
    iexact HA0
  unfold R2
  isplitl [HA1 Hy0 HAr HCr HTs HTv Hown]
  · isplitl [HA1]; · iexact HA1
    isplitl [Hy0]; · iexists fy; iexact Hy0
    isplitl [HAr HCr HTs HTv]
    · iapply (snd_start m c)
      isplitl [HAr]; · iexact HAr
      isplitl [HCr]; · iexact HCr
      isplitl [HTs]; · iexact HTs
      iexact HTv
    unfold ownSt
    iexists fo
    isplitr
    · ipureintro; intro h; exact absurd h (Nat.not_lt_zero _)
    iexact Hown
  unfold R3
  isplitl [HA2 Hy1]
  · isplitl [HA2]; · iexact HA2
    iexists fy; iexact Hy1
  unfold R4
  isplitl [HAv HCv Ho]
  · isplitl [HAv HCv]
    · iapply (rcv_in c)
      isplitl [HAv]; · iexact HAv
      iexact HCv
    iexact Ho
  unfold R5
  isplitl [HAs HV HT3]
  · isplitl [HAs]; · unfold SendPos; iexact HAs
    isplitl [HV]; · iexact HV
    iexact HT3
  iexact HA3

/-! ## The end -/

/-- How many rounds a semaphore of device `c` has gone through at the end. -/
def kEnd (c : Dev nD) : Kind → ℕ
  | .ready j => rnd c j
  | .send j => rnd c j
  | .recv j => rnd c j
  | _ => 1

/-- After the rounds that a semaphore goes through nobody pays it again. -/
theorem duties_end (c : Dev nD) (s : SemLoc sig) : ∀ r, kEnd c (kindOf s) ≤ r → (exRd (F := F) m).duties (kcell (c, s)) r = ∅ := by
  have h0 (k : Kind) : kEnd c k = 1 ∨ (kEnd c k = 0 ∧ kDuties c k = ∅) := by
    have hj (j : Dev nD) : rnd c j = 1 ∨ (rnd c j = 0 ∧ (if j = c then (∅ : Finset Bool) else {false}) = ∅) := by
      by_cases h : j = c
      · exact Or.inr ⟨if_pos h, if_pos h⟩
      · exact Or.inl (if_neg h)
    cases k with
    | ready j => exact hj j
    | send j => exact hj j
    | recv j => exact hj j
    | _ => exact Or.inl rfl
  rcases h0 (kindOf s) with h | ⟨h, h'⟩
  · rw [h]; exact duties_later m _
  · rw [h]; exact duties_none m c s h'

/-- The positions of device `c`'s semaphores at the end. -/
def posEnd (c : Dev nD) : sProp 𝕄 := bigSep Finset.univ fun s : SemLoc sig => atPos ER (kcell (c, s)) (kEnd c (kindOf s)) ∅ 0

/-- With all its rounds over, every semaphore of the device is at zero. -/
theorem close_all (K : Dev nD × SemLoc sig → ℕ) (c : Dev nD) : iprop(records m K ∗ posEnd c)
    ⊢ |={Set.univ}=> (bigSep Finset.univ fun s : SemLoc sig => semVal (kcell (c, s)) 0 : sProp 𝕄) := by
  have h (s : SemLoc sig) : iprop(records m K ∗ atPos ER (kcell (c, s)) (kEnd c (kindOf s)) ∅ 0) ⊢ |={Set.univ}=> (semVal (kcell (c, s)) 0 : sProp 𝕄) := by
    iintro ⟨#HR, HA⟩
    ihave #HI := (records_inv m K (c, s)) $$ HR
    iapply (Rounds.cell_close ER (exRd (F := F) m) (Set.mem_univ (K (c, s))) (fun h => h) (R := kEnd c (kindOf s)) (duties_end m c s))
    isplitr; · iexact HI
    iexact HA
  unfold posEnd
  exact (bigSep_with_persistent (R := records m K) fun s _ => h s).trans (bigSep_fupd _ _)

/-- How often the receive semaphore of the `d`-th device before `c` is used: never for `c` itself, once for the others. -/
theorem rnd_bwd (c d : Dev nD) : (if d.val = 0 then 0 else 1) = rnd c (bwd c d) := by
  unfold rnd
  by_cases h : d.val = 0
  · rw [if_pos h, if_pos (by rw [show d = ⟨0, by decide⟩ from Fin.ext h]; exact bwd_zero c)]
  · rw [if_neg h, if_neg (bwd_ne c d h)]

/-- The receive buffer and the positions of its semaphores. -/
theorem rcv_done (c : Dev nD) : bigSep Finset.univ (rcvB m c)
    = iprop((bigSep Finset.univ fun j : Dev nD => atPos ER (recvCell c j) (rnd c j) ∅ 0) ∗ bufPts c cc0_scratch3 (RF m c)) := by
  rw [r_blocks, around_bwd c fun j : Dev nD => rPts c j (RF m c), around_bwd c fun j : Dev nD => (atPos ER (recvCell c j) (rnd c j) ∅ 0 : sProp 𝕄), ← bigSep_sep']
  refine bigSep_congr fun d _ => ?_
  unfold rcvB
  rw [rnd_bwd]
/-- The product buffer and the positions of the send semaphores. -/
theorem snd_done (c : Dev nD) : bigSep Finset.univ (drB m c)
    = iprop((bigSep Finset.univ fun j : Dev nD => atPos ER (sendCell c j) (rnd c j) ∅ 0) ∗ bufPts c cc0_scratch2 (YF m c)) := by
  rw [y_blocks, ← bigSep_sep']
  rfl

/-- What device `c` has at the end. -/
def Left (c : Dev nD) : sProp 𝕄 :=
  iprop((bufPts c main_v1 (OF m c) ∗ bufPts c main_arg0 (XF m c) ∗ bufPts c main_arg1 (WF m c))
    ∗ (∃ f, bufPts (F := F) c cc0_scratch0 f) ∗ (∃ f, bufPts (F := F) c cc0_scratch1 f) ∗ (∃ f, bufPts (F := F) c cc0_scratch2 f)
    ∗ (∃ f, bufPts (F := F) c cc0_scratch3 f) ∗ ∃ f, bufPts (F := F) c cc0_scratch4 f)

/-- What a device holds after its program: no debts, every semaphore at its last round, and every buffer whole. -/
theorem from_done (c : Dev nD) : Done m c ⊢ iprop(owing c 0 ∗ posEnd c ∗ Left m c) := by
  unfold Done D4 D3 D2 D1 HalfRest posEnd Left
  rw [rcv_done, snd_done, sems_split, four]
  simp only [kind_ready, kind_send, kind_recv]
  iintro ⟨⟨HO, HA3, HV, Ho⟩, ⟨HAs, Hy⟩, ⟨⟨⟨HA0, HX, HAb⟩, HA1, Hw0, HW0⟩, ⟨HA2, Hx, Hw1, HW1⟩, HAr⟩, HAv, Hr⟩
  ihave HW := (Entails.of_eq (wh_cut c (WF m c)).symm) $$ [HW0 HW1]
  · isplitl [HW0]; · iexact HW0
    iexact HW1
  ihave Hw := (Entails.of_eq (w_cut c (WF m c)).symm) $$ [Hw0 Hw1]
  · isplitl [Hw0]; · iexact Hw0
    iexact Hw1
  isplitl [HO]; · iexact HO
  isplitl [HA3 HAs HA0 HAb HA1 HA2 HAr HAv]
  · isplitl [HAb]; · iexact HAb
    isplitl [HAr]; · iexact HAr
    isplitl [HA0 HA1 HA2 HA3]
    · isplitl [HA0]; · iexact HA0
      isplitl [HA1]; · iexact HA1
      isplitl [HA2]; · iexact HA2
      iexact HA3
    isplitl [HAs]; · iexact HAs
    iexact HAv
  isplitl [HV HX HW]
  · isplitl [HV]; · iexact HV
    isplitl [HX]; · iexact HX
    iexact HW
  isplitl [Hx]; · iexists (XF m c); iexact Hx
  isplitl [Hw]; · iexists (WF m c); iexact Hw
  isplitl [Hy]; · iexists (YF m c); iexact Hy
  isplitl [Hr]; · iexists (RF m c); iexact Hr
  iexists (OF m c); iexact Ho

end Cert.Exchange
end
-- ==== Proof.Body.lean ====
/-
The whole program of a device: it turns what the device starts with into the filled result.
-/
module

public import proofs.«01_k».proof.Proof.States

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m} (K : Dev nD × SemLoc sig → ℕ)

/-- A plain fact beside the resources may be used. -/
theorem Spec.pureL {c : Dev nD} {α : Type} {p : Prog (TpuEff nD τ sig (Elt F) Λ₀ .tc) α} {φ : Prop} {P R : sProp 𝕄} {Q : α → sProp 𝕄}
    (h : φ → Spec m K c p iprop(P ∗ R) Q) : Spec m K c p iprop((⌜φ⌝ ∗ P) ∗ R) Q := by
  intro Kt
  iintro ⟨#HR, ⟨⟨%hφ, HP⟩, HF⟩⟩ Hk
  iapply (h hφ Kt) $$ [HP HF] [Hk]
  · isplitr; · iexact HR
    isplitl [HP]; · iexact HP
    iexact HF
  · iexact Hk

/-- The drains after the first nine. -/
def Last (m : (ℓ : Loc nD τ sig) → Buf (Elt F) ℓ) (c : Dev nD) (n : ℕ) : sProp 𝕄 :=
  iprop(DrSt m c n ∗ cred (tallyAt (kcell (c, .dma (inS 3))) () No) ∗ atPos ER (kcell (c, .dma (inS 3))) 0 ∅ 0 ∗ D4 m c)

/-- The end of the last phase, regrouped. -/
theorem last_of (c : Dev nD) : iprop((DrSt m c 9 ∗ cred (tallyAt (kcell (c, .dma (inS 3))) () No)) ∗ atPos ER (kcell (c, .dma (inS 3))) 0 ∅ 0 ∗ D4 m c) ⊢ Last m c 9 := sep_assoc

set_option maxHeartbeats 4000000 in
/-- All of the program but the last drain and the wait for the copy out. -/
theorem spec26 (c : Dev nD) :
    Spec m K c (k0_part26 xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8) (Start m c)
      (fun r => iprop(⌜Scalar.cmpi .ne r.1 r.2 = Scalar.cmpi .ne (Scalar.extui (Scalar.cmpi .ne (place c) 15#32) : BitVec 32) 0#32⌝ ∗ Last m c 15)) := by
  rw [k0_part26_eq_skeleton (F := F)]
  unfold k0_part26_skel Start
  refine Spec.bind (F := F) (m := m) (K := K) (c := c) (Spec.frame (spec1 (m := m) K c)) ?_
  rintro ⟨d, v, a, b, e⟩
  refine Spec.pureL (F := F) (m := m) (K := K) (c := c) fun h => ?_
  obtain rfl : c = d := h.1.symm
  obtain rfl : place c = v := h.2.symm
  refine Spec.bind (F := F) (m := m) (K := K) (c := c) (Spec.frame (Spec.frame (spec2 (m := m) K c _ _ _ _))) ?_
  rintro ⟨a1, a2, a3, a4⟩
  refine Spec.bind (F := F) (m := m) (K := K) (c := c) (Spec.frame (Spec.frame (spec3 (m := m) K c _ _ _ _ _))) ?_
  rintro _
  refine Spec.bind (F := F) (m := m) (K := K) (c := c) (Spec.frame (Spec.frame (spec4 (m := m) K c _ _))) ?_
  rintro _
  refine Spec.bind (F := F) (m := m) (K := K) (c := c) (Spec.frame (Spec.frame (spec5 (m := m) K c _ _))) ?_
  rintro ⟨a1, a2, a3⟩
  refine Spec.bind (F := F) (m := m) (K := K) (c := c) (Spec.frame (Spec.frame (spec6 (m := m) K c _ _ _ _))) ?_
  rintro _
  refine Spec.bind (F := F) (m := m) (K := K) (c := c) (Spec.frame (Spec.frame (spec7 (m := m) K c _ _))) ?_
  rintro _
  refine Spec.pre (to_bar c) ?_
  refine Spec.bind (F := F) (m := m) (K := K) (c := c) (Spec.frame (spec8 (m := m) K c _)) ?_
  rintro _
  refine Spec.pre (to_half0 c) ?_
  refine Spec.bind (F := F) (m := m) (K := K) (c := c) (Spec.frame (spec9 (m := m) K c _)) ?_
  rintro _
  refine Spec.bind (F := F) (m := m) (K := K) (c := c) (Spec.frame (Spec.frame (spec10 (m := m) K c _ _))) ?_
  rintro _
  refine Spec.pre (to_half1 c) ?_
  refine Spec.bind (F := F) (m := m) (K := K) (c := c) (Spec.frame (spec11 (m := m) K c _)) ?_
  rintro _
  refine Spec.bind (F := F) (m := m) (K := K) (c := c) (Spec.frame (Spec.frame (spec12 (m := m) K c _ _))) ?_
  rintro _
  refine Spec.pre (to_recv c) ?_
  refine Spec.bind (F := F) (m := m) (K := K) (c := c) (Spec.frame (spec13 (m := m) K c _ _)) ?_
  rintro _
  refine Spec.bind (F := F) (m := m) (K := K) (c := c) (Spec.frame (spec14 (m := m) K c _ _)) ?_
  rintro ⟨a1, a2, a3, a4, a5⟩
  refine Spec.bind (F := F) (m := m) (K := K) (c := c) (Spec.frame (spec15 (m := m) K c _ _ _ _ _ _)) ?_
  rintro _
  refine Spec.bind (F := F) (m := m) (K := K) (c := c) (Spec.frame (spec16 (m := m) K c _ _)) ?_
  rintro ⟨a1, w, a3⟩
  refine Spec.pureL (F := F) (m := m) (K := K) (c := c) fun h => ?_
  obtain rfl : w = wide m c (rd 4) := h
  refine Spec.bind (F := F) (m := m) (K := K) (c := c) (Spec.frame (spec17 (m := m) K c _ _ _)) ?_
  rintro ⟨a1, a2, a3, a4⟩
  refine Spec.bind (F := F) (m := m) (K := K) (c := c) (Spec.frame (spec18 (m := m) K c _ _ _ _ _)) ?_
  rintro ⟨a1, a2⟩
  refine Spec.bind (F := F) (m := m) (K := K) (c := c) (Spec.frame (spec19 (m := m) K c _ _ _)) ?_
  rintro _
  refine Spec.bind (F := F) (m := m) (K := K) (c := c) (Spec.frame (spec20 (m := m) K c _ _)) fun w => ?_
  refine Spec.pureL (F := F) (m := m) (K := K) (c := c) fun h => ?_
  obtain rfl : w = wide m c (rd 9) := h
  refine Spec.bind (F := F) (m := m) (K := K) (c := c) (Spec.frame (spec21 (m := m) K c _)) ?_
  rintro ⟨a1, a2, a3, a4⟩
  refine Spec.bind (F := F) (m := m) (K := K) (c := c) (Spec.frame (spec22 (m := m) K c _ _ _ _ _)) ?_
  rintro ⟨a1, a2, a3⟩
  refine Spec.bind (F := F) (m := m) (K := K) (c := c) (Spec.frame (spec23 (m := m) K c _ _ _ _)) ?_
  rintro _
  refine Spec.bind (F := F) (m := m) (K := K) (c := c) (Spec.frame (spec24 (m := m) K c _ _)) ?_
  rintro _
  refine Spec.pre (to_out c) ?_
  refine Spec.bind (F := F) (m := m) (K := K) (c := c) (Spec.frame (spec25 (m := m) K c)) fun t => ?_
  refine Spec.pureL (F := F) (m := m) (K := K) (c := c) fun h => ?_
  subst h
  refine Spec.pre (last_of c) ?_
  refine Spec.mono Entails.rfl
    (Spec.frame (Q := fun r => iprop(⌜Scalar.cmpi .ne r.1 r.2 = Scalar.cmpi .ne (Scalar.extui (Scalar.cmpi .ne (place c) 15#32) : BitVec 32) 0#32⌝ ∗ DrSt m c 15)) ?_) fun r => sep_assoc
  simp -zeta -zetaHave only [semSignalWord, semWaitWord, Prog.lift, Prog.bind_op, Prog.bind_ret, Prog.pure_eq_ret]
  extract_lets
  refine Spec.step (fun Kt => step_drain m K c ⟨9, by decide⟩ rfl rfl (away c ⟨9, by decide⟩) (fun _ => sendS_eq _ _ rfl) (fun _ => Nb_eq' ⟨0, by decide⟩)) ?_
  refine Spec.step (fun Kt => step_drain m K c ⟨10, by decide⟩ rfl rfl (away c ⟨10, by decide⟩) (fun _ => sendS_eq _ _ rfl) (fun _ => Nb_eq' ⟨0, by decide⟩)) ?_
  refine Spec.step (fun Kt => step_drain m K c ⟨11, by decide⟩ rfl rfl (away c ⟨11, by decide⟩) (fun _ => sendS_eq _ _ rfl) (fun _ => Nb_eq' ⟨0, by decide⟩)) ?_
  refine Spec.step (fun Kt => step_drain m K c ⟨12, by decide⟩ rfl rfl (away c ⟨12, by decide⟩) (fun _ => sendS_eq _ _ rfl) (fun _ => Nb_eq' ⟨0, by decide⟩)) ?_
  refine Spec.step (fun Kt => step_drain m K c ⟨13, by decide⟩ rfl rfl (away c ⟨13, by decide⟩) (fun _ => sendS_eq _ _ rfl) (fun _ => Nb_eq' ⟨0, by decide⟩)) ?_
  refine Spec.step (fun Kt => step_drain m K c ⟨14, by decide⟩ rfl rfl (away c ⟨14, by decide⟩) (fun _ => sendS_eq _ _ rfl) (fun _ => Nb_eq' ⟨0, by decide⟩)) ?_
  refine Spec.ret ?_
  iintro H
  isplitr; · ipureintro; rfl
  iexact H

set_option maxHeartbeats 2000000 in
/-- The whole program. -/
theorem spec_body (c : Dev nD) : Spec m K c (cc0_body xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8) (Start m c) (fun _ => Done m c) := by
  rw [cc0_body_eq_skeleton (F := F)]
  unfold cc0_body_skel
  refine Spec.bind (F := F) (m := m) (K := K) (c := c) (spec26 (m := m) K c) ?_
  rintro ⟨v, w⟩
  refine Spec.pre (show _ ⊢ iprop((⌜Scalar.cmpi .ne v w = Scalar.cmpi .ne (Scalar.extui (Scalar.cmpi .ne (place c) 15#32) : BitVec 32) 0#32⌝
    ∗ DrSt m c 15) ∗ (cred (tallyAt (kcell (c, .dma (inS 3))) () No) ∗ atPos ER (kcell (c, .dma (inS 3))) 0 ∅ 0 ∗ D4 m c)) from ?_) ?_
  · unfold Last
    iintro ⟨HP, HD, HR⟩
    isplitr [HR]
    · isplitl [HP]; · iexact HP
      iexact HD
    · iexact HR
  refine Spec.pureL (F := F) (m := m) (K := K) (c := c) fun h => ?_
  simp -zeta -zetaHave only [semSignalWord, semWaitWord, Prog.lift, Prog.bind_op, Prog.bind_ret, Prog.pure_eq_ret]
  extract_lets
  refine Spec.stepF (A := DrSt m c 15) (B := DrSt m c 16) Entails.rfl (fun Kt => step_drain m K c ⟨15, by decide⟩ rfl rfl
    ((show Scalar.cmpi .ne v w = 1#1 ↔ _ by rw [h]; exact away c ⟨15, by decide⟩)) (fun _ => sendS_eq _ _ rfl) (fun _ => Nb_eq' ⟨0, by decide⟩)) ?_
  refine Spec.stepF (A := iprop(cred (tallyAt (kcell (c, .dma (inS 3))) () No) ∗ owing c 0 ∗ atPos ER (kcell (c, .dma (inS 3))) 0 ∅ 0))
    (R := iprop(bigSep Finset.univ (drB m c) ∗ D4 m c)) ?_ (fun Kt => wait_o m K c rfl) ?_
  · unfold DrSt
    rw [sweep_end]
    iintro ⟨⟨HO, HS⟩, HC, HA, HD⟩
    isplitr [HS HD]
    · isplitl [HC]; · iexact HC
      isplitl [HO]; · iexact HO
      iexact HA
    · isplitl [HS]; · iexact HS
      iexact HD
  exact Spec.ret Entails.rfl

end Cert.Exchange
end
-- ==== Proof.Launch.lean ====
/-
The run of the whole program on every device: from any memory with every counter at zero it ends, with the two arguments as
they were, every counter at zero, and on each device the result `OF`.
-/
module

public import proofs.«01_k».proof.Proof.Ends
public import proofs.«01_k».proof.Proof.Body
public import Idealize.ShloMosaic.Lib.Pipeline.CollectiveSegs

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s region starts from, besides its buffers. -/
def Begin (c : Dev nD) : sProp 𝕄 :=
  iprop(∃ K, records m K ∗ (posAll c ∗ payToks c ∗ CredIn (F := F) c)
    ∗ bufPts c main_arg0 (XF m c) ∗ bufPts c main_arg1 (WF m c) ∗ ∃ f, bufPts (F := F) c main_v1 f)
/-- The scratch buffers. -/
def Scratch (c : Dev nD) : sProp 𝕄 :=
  iprop((∃ f, bufPts (F := F) c cc0_scratch0 f) ∗ (∃ f, bufPts (F := F) c cc0_scratch1 f) ∗ (∃ f, bufPts (F := F) c cc0_scratch2 f)
    ∗ (∃ f, bufPts (F := F) c cc0_scratch3 f) ∗ ∃ f, bufPts (F := F) c cc0_scratch4 f)
/-- What a device holds before its program. -/
def Φ₀ (c : Dev nD) : sProp 𝕄 := iprop(Begin m c ∗ Scratch (F := F) c)
/-- What a device holds after it: every semaphore at zero, every buffer whole. -/
def Φ₁ (c : Dev nD) : sProp 𝕄 := iprop((bigSep Finset.univ fun s : SemLoc sig => semVal (kcell (c, s)) 0) ∗ Left m c)

/-- The call as the launch sees it: no windows, one step, `Φ₀` before and `Φ₁` after. -/
def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The program from the state at entry to the state at exit. -/
theorem run_body (c : Dev nD) (Q : PUnit → sProp 𝕄) : iprop(Φ₀ m c ∗ owing c (O₀ c))
    ⊢ iprop((∀ r, (Φ₁ m c ∗ owing c 0) -∗ Q r) -∗ run c (cc0_body xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8) Q) := by
  unfold Φ₀ Begin Scratch
  iintro ⟨⟨⟨%K, #HR, HG, HB⟩, HS⟩, HO⟩ HQ
  iapply (wp_fupd frame (wpE (defs₀ (F := F)) 𝒱₀ (c : Thread nD τ) none) Set.univ (cc0_body xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8) Q)
  iapply (spec_body (F := F) (m := m) K c fun r => iprop(|={Set.univ}=> Q r)) $$ [HG HB HS HO]
  · isplitr; · iexact HR
    iapply (to_start m c)
    isplitl [HO]; · iexact HO
    unfold Given
    isplitl [HG]; · iexact HG
    isplitl [HB]; · iexact HB
    iexact HS
  · iintro %r HD
    ihave HD := (from_done m c) $$ HD
    icases HD with ⟨HO, HP, HL⟩
    imod (close_all m K c) $$ [HP] with HV
    · isplitr; · iexact HR
      iexact HP
    imodintro
    iapply HQ
    unfold Φ₁
    isplitl [HV HL]
    · isplitl [HV]; · iexact HV
      iexact HL
    iexact HO

/-- There are no windows, so what is held for each of them is nothing. -/
theorem no_windows (Φ : Fin cfg0.W → sProp 𝕄) : bigSep Finset.univ Φ = iprop(emp) := by
  rw [show (Finset.univ : Finset (Fin cfg0.W)) = ∅ from rfl, bigSep_empty]; rfl

/-- The device's program leads from what it holds before to what it holds after. -/
theorem body_obligation (c : Dev nD) : BodyObligation (dats (F := F) m ρ 0 c) (defs₀ (F := F)) 𝒱₀ () Set.univ := fun t => by
  rw [fin_N0 t, no_windows, no_windows]
  show iprop(Φ₀ m c ∗ (dats m ρ 0 c).owesAt () t0_0.castSucc ∗ emp) ⊢ run c (cc0_body xH (Memref.isWhole_whole _) wH (Memref.isWhole_whole _) oH (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8) (fun _ => iprop(Φ₁ m c ∗ (dats m ρ 0 c).owesAt () t0_0.succ ∗ emp))
  have e0 : (dats (F := F) m ρ 0 c).owesAt () t0_0.castSucc ⊢ owing (F := F) c (O₀ c) := by
    unfold Dat.owesAt Pipeline.owesWithin owing
    iintro ⟨%W, -, HO⟩
    iexists W; iexact HO
  have e1 : owing (F := F) c 0 ⊢ (dats (F := F) m ρ 0 c).owesAt () t0_0.succ := by
    unfold Dat.owesAt Pipeline.owesWithin owing
    iintro ⟨%W, HO⟩
    iexists W
    isplitr
    · ipureintro; exact fun _ _ => Or.inl trivial
    iexact HO
  iintro ⟨HΦ, HO, -⟩
  ihave HO := e0 $$ HO
  iapply (run_body m c fun _ => iprop(Φ₁ m c ∗ (dats m ρ 0 c).owesAt () t0_0.succ ∗ emp)) $$ [HΦ HO]
  · isplitl [HΦ]; · iexact HΦ
    iexact HO
  · iintro %r ⟨HΦ, HO⟩
    ihave HO := e1 $$ HO
    isplitl [HΦ]; · iexact HΦ
    isplitl [HO]; · iexact HO
    iempintro

/-- There is no window whose share could differ. -/
theorem share_eq (c : Dev nD) (w : Fin cfg0.W) : (dats m ρ 0 c).share w = fullShare := w.elim0

/-- There is no window to wait for. -/
theorem waits (c : Dev nD) : (levAts L lv : sProp 𝕄) ⊢ Pipeline.cellsWaits cfgs (dats m ρ) () 0 c :=
  Pipeline.cellsWaits_intro cfgs (dats m ρ) () 0 c fun w s t => w.elim0

/-- What the launch gives a device, as what its program starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Begin m c ∗ emp) := by
  rw [Pipeline.unscopedRestP_none, unscopedRest0_eq]
  unfold G' recs
  iintro ⟨⟨HX, HW, HV⟩, Hlev, Hcr, -, ⟨%K, ⟨HI, HR⟩, HA, HT⟩⟩
  ihave Hc := (creds (F := F) c) $$ Hcr
  imodintro
  isplitl
  · unfold Begin
    iexists K
    isplitl [HI HR Hlev]
    · unfold records levels
      isplitl [HI]; · iexact HI
      isplitl [HR]; · iexact HR
      iexact Hlev
    isplitl [HA HT Hc]
    · isplitl [HA]; · iexact HA
      isplitl [HT]; · iexact HT
      unfold CredIn; iexact Hc
    isplitl [HX]; · iexact HX
    isplitl [HW]; · iexact HW
    iexists (m ((c : Thread nD τ).loc main_v1)); iexact HV
  · iempintro

/-- That and the scratch buffers are what a device holds before its program. -/
theorem phi0_intro (c : Dev nD) :
    iprop(Begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs]; · iexact Hs
  iexact Hr

/-- What a device's region leaves besides scratch and its own semaphores. -/
def Kept (c : Dev nD) : sProp 𝕄 :=
  iprop((bufPts c main_v1 (OF m c) ∗ bufPts c main_arg0 (XF m c) ∗ bufPts c main_arg1 (WF m c)) ∗ unscopedSems0 c)

/-- After the program a device gives back its semaphores at zero and the scratch buffers, and keeps the rest. -/
theorem phi1_exit (c : Dev nD) :
    (dats m ρ 0 c).Φ (Fin.last cfg0.N) ⊢ iprop(Kept m c ∗ Pipeline.ownSems0 osem c ∗ Pipeline.scopedRest cfg0.spec c) := by
  rw [show (dats m ρ 0 c).Φ (Fin.last cfg0.N) = Φ₁ m c from rfl, scopedRest0_eq]
  unfold Φ₁ Left Kept
  iintro ⟨HS, HB, Hr⟩
  ihave HS := (Entails.of_eq (sems_all (F := F) c).symm) $$ HS
  icases HS with ⟨HS, HU⟩
  isplitl [HB HU]
  · isplitl [HB]; · iexact HB
    iexact HU
  isplitl [HS]; · iexact HS
  iexact Hr

/-- What the run leaves on device `c`. -/
def After (c : Dev nD) (mem : (ℓ : Loc nD τ sig) → Buf (Elt F) ℓ) : Prop :=
  mem ((c : Thread nD τ).loc main_v1) = OF m c ∧ mem ((c : Thread nD τ).loc main_arg0) = m ((c : Thread nD τ).loc main_arg0)
    ∧ mem ((c : Thread nD τ).loc main_arg1) = m ((c : Thread nD τ).loc main_arg1)

/-- A buffer that is owned holds in memory what it is said to hold. -/
theorem read_buf (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) {()} (fun _ : Unit => ℓ) (fun _ => f) s'
  rw [bigSep_singleton] at h
  refine h.trans ?_
  iintro ⟨%hf, H⟩
  isplitr
  · ipureintro; exact hf () (Finset.mem_singleton_self _)
  iexact H

/-- At the end the memory of the device is as claimed and its lasting semaphores are at zero. -/
theorem keep_read (c : Dev nD) (s' : Phys nD τ sig (Elt F)) : iprop(Kept m c ∗ emp ∗ SI s')
    ⊢ |={Set.univ}=> iprop(⌜After m c s'.mem.mem ∧ ∀ sm : SemLoc sig, sm.isScoped .tc = false → s'.mem.sem ((c.tc : Thread nD τ), sm) = 0⌝ ∗ SI s') := by
  unfold Kept
  iintro ⟨⟨⟨HV, HX, HW⟩, HU⟩, -, HSI⟩
  imod (Pipeline.unscopedSems0_read (X := unscopedSems0 c) (c := c) fupd_intro s') $$ [HU HSI] with ⟨%hU, HSI⟩
  · isplitl [HU] <;> iassumption
  ihave H := (read_buf ((c : Thread nD τ).loc main_v1) (OF m c) s') $$ [HV HSI]
  · isplitl [HV] <;> iassumption
  icases H with ⟨%hV, HSI⟩
  ihave H := (read_buf ((c : Thread nD τ).loc main_arg0) (XF m c) s') $$ [HX HSI]
  · isplitl [HX] <;> iassumption
  icases H with ⟨%hX, HSI⟩
  ihave H := (read_buf ((c : Thread nD τ).loc main_arg1) (WF m c) s') $$ [HW HSI]
  · isplitl [HW] <;> iassumption
  icases H with ⟨%hW, HSI⟩
  imodintro
  isplitr
  · ipureintro; exact ⟨⟨hV, hX, hW⟩, hU⟩
  iexact HSI

/-- The run. -/
theorem run_main : θ_run defs (onTc (τ := τ) (main (F := F))) (s₀ m ρ) (fun r => (∀ c, After m c r.2.mem) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Begin m) (Y := Kept m) (Z := fun _ => iprop(emp))
    (hX := start_intro m ρ) (hin := phi0_intro m ρ) (hout := phi1_exit m ρ)
    (QY := fun c s => After m c s.mem ∧ ∀ sm : SemLoc sig, sm.isScoped .tc = false → s.sem ((c.tc : Thread nD τ), sm) = 0)
    (hY := keep_read m)
    (hQ := fun _ h hs => ⟨fun c => (h c).2.2.1, sem_eq_zero hs fun c => (h c).2.2.2⟩)

end Cert.Exchange
end
-- ==== Proof.Value.lean ====
/-
The value: over exact numbers, what the run leaves on a device is that device's column block of the whole product.
-/
module

public import proofs.«01_k».proof.Proof.Common
public import Idealize.ShloMosaic.Lib.Layout
public import Idealize.ShloMosaic.Lib.KernelVsHost
public import Idealize.ShloMosaic.Lib.StackMember
public import Idealize.ShloMosaic.Lib.Pipeline.Value

@[expose] public section

set_option maxRecDepth 100000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-- One half of a device's product, read at an index: a row of `x` times a column of that half of `w`. -/
theorem pay_at (X : S128x2048.Idx → Elt Ideal .f32) (W : S2048x1024.Idx → Elt Ideal .f32) (a : Fin 128) (b : Fin 1024) :
    k0_pay1 (F := Ideal) X W (ix2 a b) = ∑ k : Fin 2048, (X (ix2 a k) * W (ix2 k b) : EReal) := by
  unfold k0_pay1
  rw [shapeCast_self]
  show matmul (F := Ideal) (φ₁ := .f32) (φ₂ := .f32) dot_S128x2048_S2048x1024_S128x1024_1_0_0_1_n_n none X W (constant S128x1024 .f32 0x00000000#32) (ix2 a b) = _
  rw [matmul_zero_eq_dotGeneral]
  exact StackMember.dotGeneral_plain_apply (φ₁ := .f32) (φ₂ := .f32) none X W a b

/-- Half `h` of `w` at an index is `w` at the column `1024` per half further on. -/
theorem half_at {F : FTy → Type} [FloatOps F] (m : (ℓ : Loc nD τ sig) → Buf (Elt F) ℓ) (c : Dev nD) (h : Fin 2) (k : Fin 2048) (b : Fin 1024) (j : Fin 2048) (hj : j.val = 1024 * h.val + b.val) :
    WH m c h (ix2 k b) = WF m c (ix2 k j) := by
  show WF m c ((rectW h).emb (ix2 k b)) = _
  refine congrArg (WF m c) (idx_ext ?_ ?_)
  · exact (ValueKit.rect_emb_unit_val _ _ _ _ _).trans (Nat.zero_add _)
  · exact (ValueKit.rect_emb_unit_val _ _ _ _ _).trans hj.symm

/-- What device `c` ends with at `(r, b)`: row `r % 128` of device `r / 128`'s rows times column `128 c + b` of `w`. -/
theorem OF_at (m : (ℓ : Loc nD τ sig) → Buf (Elt Ideal) ℓ) (c : Dev nD) (i : S2048x128.Idx) (a : Fin 128) (ha : a.val = (i 0).val % 128)
    (j : Fin 2048) (hj : j.val = 128 * c.val + (i 1).val) :
    OF m c i = ∑ k : Fin 2048, (XF m (srcOf i) (ix2 a k) * WF m (srcOf i) (ix2 k j) : EReal) := by
  have hb : j.val % 1024 < 1024 := Nat.mod_lt _ (by decide)
  have e : inHalf (srcIdx c i) = ix2 a ⟨j.val % 1024, hb⟩ := idx_ext ha.symm (congrArg (· % 1024) hj.symm)
  show k0_pay1 (F := Ideal) (XF m (srcOf i)) (WH m (srcOf i) (halfOf (srcIdx c i))) (inHalf (srcIdx c i)) = _
  rw [e, pay_at]
  refine Finset.sum_congr rfl fun k _ => ?_
  rw [half_at m (srcOf i) _ k _ j]
  show j.val = 1024 * ((128 * c.val + (i 1).val) / 1024) + j.val % 1024
  rw [← hj]; omega

/-- If every device holds its rows of `x` and the whole of `w`, device `c` ends with column block `c` of their product. -/
theorem OF_block (m : (ℓ : Loc nD τ sig) → Buf (Elt Ideal) ℓ) (X W : S2048x2048.Idx → Elt Ideal .f32)
    (hX : ∀ c, XF m c = Layout.block ⟨2, ![128, 2048]⟩ ⟨2, ![2048, 2048]⟩ 0 16 c X) (hW : ∀ c, WF m c = W)
    (Y : S2048x2048.Idx → Elt Ideal .f32) (hY : ∀ r j, Y (ix2 r j) = ∑ k : Fin 2048, (X (ix2 r k) * W (ix2 k j) : EReal)) (c : Dev nD) :
    OF m c = Layout.block ⟨2, ![2048, 128]⟩ ⟨2, ![2048, 2048]⟩ 1 16 c Y := by
  funext i
  have hc : c.val < 16 := c.isLt
  have h0 : (i 0).val < 2048 := (i 0).isLt
  have h1 : (i 1).val < 128 := (i 1).isLt
  rw [OF_at m c i ⟨(i 0).val % 128, Nat.mod_lt _ (by decide)⟩ rfl ⟨128 * c.val + (i 1).val, by omega⟩ rfl, Layout.block_apply]
  refine Eq.trans ?_ ((congrArg Y (idx_ext (j := ix2 (⟨(i 0).val, h0⟩ : Fin 2048) (⟨128 * c.val + (i 1).val, by omega⟩ : Fin 2048)) ?_ ?_)).trans (hY _ _)).symm
  · refine Finset.sum_congr rfl fun k _ => ?_
    rw [hX, hW, Layout.block_apply]
    refine congrArg (fun x : Elt Ideal .f32 => (x * W (ix2 k ⟨128 * c.val + (i 1).val, by omega⟩) : EReal)) (congrArg X (idx_ext ?_ ?_))
    · refine (Layout.idx_rows_val _ _ _).1.trans ?_
      show (i 0).val / 128 * 128 + (i 0).val % 128 = (i 0).val
      omega
    · exact (Layout.idx_rows_val _ _ _).2
  · exact (Layout.idx_cols_val _ _ _).1
  · refine (Layout.idx_cols_val _ _ _).2.trans ?_
    show c.val * 128 + (i 1).val = 128 * c.val + (i 1).val
    omega

end Cert.Exchange
end
-- ==== Proof.lean ====
/-
The claims of this certificate, from the run of the program (`Cert.Exchange.run_main`, for any float values) and the value it
leaves over exact numbers (`Cert.Exchange.OF_block`).
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent

@[expose] public section

set_option maxRecDepth 100000

noncomputable section

namespace Cert.Proof

open Idealize.ShloMosaic Idealize.SL.Sem Idealize.ShloMosaic.ValueIdx

/-- The kernel over exact numbers runs, its arguments unchanged and every counter at zero at the end. -/
theorem frame_ideal : Cert.quiescent_KernelIdeal := fun m ρ _ =>
  (θ_run (Cert.KernelIdeal.defs (F := Ideal)) _ _).mono (fun _ h => ⟨fun c => (h.1 c).2, h.2⟩) (Cert.Exchange.run_main (F := Ideal) m ρ)

/-- So does the kernel over the machine's numbers: it is the same program. -/
theorem frame_kernel : Cert.quiescent_Kernel := fun m ρ _ =>
  (θ_run (Cert.KernelIdeal.defs (F := Bits)) _ _).mono (fun _ h => ⟨fun c => (h.1 c).2, h.2⟩) (Cert.Exchange.run_main (F := Bits) m ρ)

/-- So does the reference. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-- The kernel's sixteen results are the column blocks of the reference's result. -/
theorem value : Cert.algebraic_KernelIdeal_ReferenceIdeal := fun m g m' g' _ h =>
  ⟨_, (θ_run (Cert.KernelIdeal.defs (F := Ideal)) _ _).mono (fun _ hr c =>
      ⟨(hr.1 c).1.trans (Cert.Exchange.OF_block m _ _ (fun c => (h c).1) (fun c => (h c).2) _
        (fun r j => StackMember.dotGeneral_plain_apply (φ₁ := .f32) (φ₂ := .f32) none _ _ r j) c), (hr.1 c).2⟩) (Cert.Exchange.run_main (F := Ideal) m g),
    (θ_run (Cert.ReferenceIdeal.defs (F := Ideal)) _ _).mono (fun _ hr => hr 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
